-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_queries_keys : Cert.Pre_finite_queries_keys.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
-- ==== Pre_finite_queries_keys.lean ====
abbrev S2x2048x12x64 : Shape := ⟨4, ![2, 2048, 12, 64]⟩
abbrev S1 : Shape := ⟨1, ![1]⟩
abbrev S_ : Shape := ⟨0, ![]⟩

class Facts : Prop where
  bcast_S_S2x2048x12x64 : S_.BroadcastsInDim S2x2048x12x64 (![] : Fin 0 → Fin S2x2048x12x64.rank)
  reducesTo_S2x2048x12x64_S_d0_1_2_3 : S2x2048x12x64.ReducesTo [0, 1, 2, 3] S_
  h_S_ : 0 < S_.numel

variable [Facts]

def fn {F : FTy → Type} [FloatOps F] (main_arg0 : FVec F S2x2048x12x64 .f32) (main_arg1 : FVec F S2x2048x12x64 .f32) (main_arg2 : FVec F S2x2048x12x64 .f32) (main_arg3 : IVec S1 1) : IVec S_ 1 :=
  let main_v0 : FVec F S2x2048x12x64 .f32 := Host.absf main_arg0
  let main_cst : FVec F S_ .f32 := constant S_ .f32 0x7F800000#32
  let main_v1 : FVec F S2x2048x12x64 .f32 := broadcastInDim S2x2048x12x64 ![] bcast_S_S2x2048x12x64 main_cst
  let main_v2 : IVec S2x2048x12x64 1 := cmpf .olt main_v0 main_v1
  let main_c : IVec S_ 1 := constantI S_ 1 1#1
  let main_v3 : IVec S_ 1 := (fun x v => Host.reduce IntOp.andi x v reducesTo_S2x2048x12x64_S_d0_1_2_3 h_S_) main_v2 main_c
  let main_v4 : FVec F S2x2048x12x64 .f32 := Host.absf main_arg1
  let main_cst_0 : FVec F S_ .f32 := constant S_ .f32 0x7F800000#32
  let main_v5 : FVec F S2x2048x12x64 .f32 := broadcastInDim S2x2048x12x64 ![] bcast_S_S2x2048x12x64 main_cst_0
  let main_v6 : IVec S2x2048x12x64 1 := cmpf .olt main_v4 main_v5
  let main_c_1 : IVec S_ 1 := constantI S_ 1 1#1
  let main_v7 : IVec S_ 1 := (fun x v => Host.reduce IntOp.andi x v reducesTo_S2x2048x12x64_S_d0_1_2_3 h_S_) main_v6 main_c_1
  let main_v8 : IVec S_ 1 := andi main_v3 main_v7
  main_v8
-- ==== Kernel.lean ====
abbrev S2x2048x12x64 : Shape := ⟨4, ![2, 2048, 12, 64]⟩
abbrev S1 : Shape := ⟨1, ![1]⟩
abbrev S2x2048x768 : Shape := ⟨3, ![2, 2048, 768]⟩
abbrev S2x12x2048x64 : Shape := ⟨4, ![2, 12, 2048, 64]⟩
abbrev S1x2048x128 : Shape := ⟨3, ![1, 2048, 128]⟩
abbrev S1x2x2048x64 : Shape := ⟨4, ![1, 2, 2048, 64]⟩
abbrev S24x2048 : Shape := ⟨2, ![24, 2048]⟩
abbrev S24x40 : Shape := ⟨2, ![24, 40]⟩
abbrev S2048x128 : Shape := ⟨2, ![2048, 128]⟩
abbrev S2048x64 : Shape := ⟨2, ![2048, 64]⟩
abbrev S8x2048 : Shape := ⟨2, ![8, 2048]⟩
abbrev S1x512x64 : Shape := ⟨3, ![1, 512, 64]⟩
abbrev S512x64 : Shape := ⟨2, ![512, 64]⟩
abbrev S512x2048 : Shape := ⟨2, ![512, 2048]⟩
abbrev S2048 : Shape := ⟨1, ![2048]⟩
abbrev S1x2048 : Shape := ⟨2, ![1, 2048]⟩
abbrev S24 : Shape := ⟨1, ![24]⟩
abbrev S24x1 : Shape := ⟨2, ![24, 1]⟩
abbrev S40x2048 : Shape := ⟨2, ![40, 2048]⟩
abbrev S1x40 : Shape := ⟨2, ![1, 40]⟩
abbrev S40x1 : Shape := ⟨2, ![40, 1]⟩
abbrev S40x64 : Shape := ⟨2, ![40, 64]⟩
abbrev S40 : Shape := ⟨1, ![40]⟩
abbrev S2048x1 : Shape := ⟨2, ![2048, 1]⟩
abbrev S64 : Shape := ⟨1, ![64]⟩
abbrev S1x64 : Shape := ⟨2, ![1, 64]⟩
abbrev S1x1x2048x64 : Shape := ⟨4, ![1, 1, 2048, 64]⟩

abbrev nBuf : Space → Nat
  | .hbm => 8
  | .vmem => 10
  | .smem => 0
  | _ => 0

abbrev bufTy : (tb : Table) → Fin (tcTables nBuf tb) → BufTy
  | .hbm, ⟨0, _⟩ => ⟨S2x2048x12x64, .f32⟩
  | .hbm, ⟨1, _⟩ => ⟨S2x2048x12x64, .f32⟩
  | .hbm, ⟨2, _⟩ => ⟨S2x2048x12x64, .f32⟩
  | .hbm, ⟨3, _⟩ => ⟨S1, .i1⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x12x2048x64, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2x2048x64, .f32⟩
  | .local _ .vmem, ⟨7, _⟩ => ⟨S1x2x2048x64, .f32⟩
  | .local _ .vmem, ⟨8, _⟩ => ⟨S24x2048, .f32⟩
  | .local _ .vmem, ⟨9, _⟩ => ⟨S24x40, .i32⟩
  | _, _ => ⟨S2x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 6], ![false, false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_off1 (i : grid0.Coords) (c0_i32_25 : BitVec 32) : Fin 2 → Nat :=
  let c2_i32 : BitVec 32 := 2#32
  let arg1 : BitVec 32 := BitVec.ofNat 32 (i 1).val
  let c6_i32 : BitVec 32 := 6#32
  let v0 : BitVec 32 := Scalar.muli arg1 c6_i32
  let arg2 : BitVec 32 := BitVec.ofNat 32 (i 2).val
  let v1 : BitVec 32 := Scalar.addi v0 arg2
  let v2 : BitVec 32 := Scalar.muli c2_i32 v1
  let v808 : BitVec 32 := Scalar.addi v2 c0_i32_25
  let v809 : Index := Scalar.indexCast v808
  let c0_26 : Index := 0#32
  ![v809.toNat, 0]
def k0_cond3 (i : grid0.Coords) : BitVec 1 :=
  let arg0 : BitVec 32 := BitVec.ofNat 32 (i 0).val
  let c1_i32_4 : BitVec 32 := 1#32
  let v13 : BitVec 1 := Scalar.cmpi .eq arg0 c1_i32_4
  let v14 : BitVec 32 := Scalar.extui v13
  let c0_i32_5 : BitVec 32 := 0#32
  let v15 : BitVec 1 := Scalar.cmpi .ne v14 c0_i32_5
  v15

def k0_off2 (i : grid0.Coords) (c0_i32_6 : BitVec 32) : Fin 2 → Nat :=
  let c2_i32 : BitVec 32 := 2#32
  let arg1 : BitVec 32 := BitVec.ofNat 32 (i 1).val
  let c6_i32 : BitVec 32 := 6#32
  let v0 : BitVec 32 := Scalar.muli arg1 c6_i32
  let arg2 : BitVec 32 := BitVec.ofNat 32 (i 2).val
  let v1 : BitVec 32 := Scalar.addi v0 arg2
  let v2 : BitVec 32 := Scalar.muli c2_i32 v1
  let v17 : BitVec 32 := Scalar.addi v2 c0_i32_6
  let v18 : Index := Scalar.indexCast v17
  let c0 : Index := 0#32
  ![v18.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let v2 : BitVec 1 := Scalar.cmpi .eq arg0 c0_i32_1
  let c0_i32_2 : BitVec 32 := 0#32
  let v3 : BitVec 32 := Scalar.select v2 c0_i32_2 arg2
  let c0_i32_3 : BitVec 32 := 0#32
  let c0_i32_4 : BitVec 32 := 0#32
  ![v1.toNat, c0_i32_3.toNat, v3.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let v2 : BitVec 1 := Scalar.cmpi .eq arg0 c0_i32_1
  let c0_i32_2 : BitVec 32 := 0#32
  let v3 : BitVec 32 := Scalar.select v2 c0_i32_2 arg2
  let c0_i32_3 : BitVec 32 := 0#32
  let c0_i32_4 : BitVec 32 := 0#32
  let c0_i32_5 : BitVec 32 := 0#32
  ![v1.toNat, v3.toNat, c0_i32_3.toNat, c0_i32_4.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x2048x12x64 : Shape := ⟨4, ![2, 2048, 12, 64]⟩
abbrev S1 : Shape := ⟨1, ![1]⟩
abbrev S2x12x2048x64 : Shape := ⟨4, ![2, 12, 2048, 64]⟩
abbrev S2x12x64x2048 : Shape := ⟨4, ![2, 12, 64, 2048]⟩
abbrev S2x12x2048x2048 : Shape := ⟨4, ![2, 12, 2048, 2048]⟩
abbrev S_ : Shape := ⟨0, ![]⟩
abbrev S2x12x2048 : Shape := ⟨3, ![2, 12, 2048]⟩
abbrev S2x12x40 : Shape := ⟨3, ![2, 12, 40]⟩
abbrev S2 : Shape := ⟨1, ![2]⟩
abbrev S2x1x1 : Shape := ⟨3, ![2, 1, 1]⟩
abbrev S12 : Shape := ⟨1, ![12]⟩
abbrev S1x12x1 : Shape := ⟨3, ![1, 12, 1]⟩
abbrev S2x12x40x1 : Shape := ⟨4, ![2, 12, 40, 1]⟩
abbrev S2x12x40x3 : Shape := ⟨4, ![2, 12, 40, 3]⟩
abbrev S2x12x40x64 : Shape := ⟨4, ![2, 12, 40, 64]⟩
abbrev S2x12x40x2048 : Shape := ⟨4, ![2, 12, 40, 2048]⟩
abbrev S2x12x64 : Shape := ⟨3, ![2, 12, 64]⟩
abbrev S2x12x1x64 : Shape := ⟨4, ![2, 12, 1, 64]⟩

abbrev nBuf : Space → Nat
  | .hbm => 106
  | .vmem => 0
  | .smem => 0
  | _ => 0

abbrev bufTy : (tb : Table) → Fin (tcTables nBuf tb) → BufTy
  | .hbm, ⟨0, _⟩ => ⟨S2x2048x12x64, .f32⟩
  | .hbm, ⟨1, _⟩ => ⟨S2x2048x12x64, .f32⟩
  | .hbm, ⟨2, _⟩ => ⟨S2x2048x12x64, .f32⟩
  | .hbm, ⟨3, _⟩ => ⟨S1, .i1⟩
  | .hbm, ⟨4, _⟩ => ⟨S2x12x2048x64, .f32⟩
  | .hbm, ⟨5, _⟩ => ⟨S2x12x2048x64, .f32⟩
  | .hbm, ⟨6, _⟩ => ⟨S2x12x2048x64, .f32⟩
  | .hbm, ⟨7, _⟩ => ⟨S2x12x64x2048, .f32⟩
  | .hbm, ⟨8, _⟩ => ⟨S2x12x2048x2048, .f32⟩
  | .hbm, ⟨9, _⟩ => ⟨S_, .f32⟩
  | .hbm, ⟨10, _⟩ => ⟨S2x12x2048, .f32⟩
  | .hbm, ⟨11, _⟩ => ⟨S_, .f32⟩
  | .hbm, ⟨12, _⟩ => ⟨S2x12x2048, .f32⟩
  | .hbm, ⟨13, _⟩ => ⟨S_, .f32⟩
  | .hbm, ⟨14, _⟩ => ⟨S2x12x2048, .f32⟩
  | .hbm, ⟨15, _⟩ => ⟨S2x12x2048, .f32⟩
  | .hbm, ⟨16, _⟩ => ⟨S2x12x2048, .f32⟩
  | .hbm, ⟨17, _⟩ => ⟨S2x12x40, .f32⟩
  | .hbm, ⟨18, _⟩ => ⟨S2x12x40, .i32⟩
  | .hbm, ⟨19, _⟩ => ⟨S2, .i32⟩
  | .hbm, ⟨20, _⟩ => ⟨S2x1x1, .i32⟩
  | .hbm, ⟨21, _⟩ => ⟨S12, .i32⟩
  | .hbm, ⟨22, _⟩ => ⟨S1x12x1, .i32⟩
  | .hbm, ⟨23, _⟩ => ⟨S_, .i32⟩
  | .hbm, ⟨24, _⟩ => ⟨S2x1x1, .i32⟩
  | .hbm, ⟨25, _⟩ => ⟨S2x1x1, .i1⟩
  | .hbm, ⟨26, _⟩ => ⟨S_, .i32⟩
  | .hbm, ⟨27, _⟩ => ⟨S2x1x1, .i32⟩
  | .hbm, ⟨28, _⟩ => ⟨S2x1x1, .i32⟩
  | .hbm, ⟨29, _⟩ => ⟨S2x1x1, .i32⟩
  | .hbm, ⟨30, _⟩ => ⟨S_, .i32⟩
  | .hbm, ⟨31, _⟩ => ⟨S1x12x1, .i32⟩
  | .hbm, ⟨32, _⟩ => ⟨S1x12x1, .i1⟩
  | .hbm, ⟨33, _⟩ => ⟨S_, .i32⟩
  | .hbm, ⟨34, _⟩ => ⟨S1x12x1, .i32⟩
  | .hbm, ⟨35, _⟩ => ⟨S1x12x1, .i32⟩
  | .hbm, ⟨36, _⟩ => ⟨S1x12x1, .i32⟩
  | .hbm, ⟨37, _⟩ => ⟨S_, .i32⟩
  | .hbm, ⟨38, _⟩ => ⟨S2x12x40, .i32⟩
  | .hbm, ⟨39, _⟩ => ⟨S2x12x40, .i1⟩
  | .hbm, ⟨40, _⟩ => ⟨S_, .i32⟩
  | .hbm, ⟨41, _⟩ => ⟨S2x12x40, .i32⟩
  | .hbm, ⟨42, _⟩ => ⟨S2x12x40, .i32⟩
  | .hbm, ⟨43, _⟩ => ⟨S2x12x40, .i32⟩
  | .hbm, ⟨44, _⟩ => ⟨S2x12x40, .i32⟩
  | .hbm, ⟨45, _⟩ => ⟨S2x12x40, .i32⟩
  | .hbm, ⟨46, _⟩ => ⟨S2x12x40x1, .i32⟩
  | .hbm, ⟨47, _⟩ => ⟨S2x12x40x1, .i32⟩
  | .hbm, ⟨48, _⟩ => ⟨S2x12x40x1, .i32⟩
  | .hbm, ⟨49, _⟩ => ⟨S2x12x40x3, .i32⟩
  | .hbm, ⟨50, _⟩ => ⟨S2x12x40x64, .f32⟩
  | .hbm, ⟨51, _⟩ => ⟨S2x12x64x2048, .f32⟩
  | .hbm, ⟨52, _⟩ => ⟨S2x12x40x2048, .f32⟩
  | .hbm, ⟨53, _⟩ => ⟨S_, .f32⟩
  | .hbm, ⟨54, _⟩ => ⟨S2x12x40x2048, .f32⟩
  | .hbm, ⟨55, _⟩ => ⟨S2x12x40x2048, .f32⟩
  | .hbm, ⟨56, _⟩ => ⟨S_, .f32⟩
  | .hbm, ⟨57, _⟩ => ⟨S2x12x64, .f32⟩
  | .hbm, ⟨58, _⟩ => ⟨S_, .f32⟩
  | .hbm, ⟨59, _⟩ => ⟨S2x12x64, .f32⟩
  | .hbm, ⟨60, _⟩ => ⟨S2x12x64, .f32⟩
  | .hbm, ⟨61, _⟩ => ⟨S2x12x1x64, .f32⟩
  | .hbm, ⟨62, _⟩ => ⟨S2x12x2048x64, .f32⟩
  | .hbm, ⟨63, _⟩ => ⟨S_, .f32⟩
  | .hbm, ⟨64, _⟩ => ⟨S2x12x40, .f32⟩
  | .hbm, ⟨65, _⟩ => ⟨S_, .f32⟩
  | .hbm, ⟨66, _⟩ => ⟨S2x12x40, .f32⟩
  | .hbm, ⟨67, _⟩ => ⟨S2x12x40, .f32⟩
  | .hbm, ⟨68, _⟩ => ⟨S2x12x40x1, .f32⟩
  | .hbm, ⟨69, _⟩ => ⟨S2x12x40x2048, .f32⟩
  | .hbm, ⟨70, _⟩ => ⟨S2x12x40x2048, .f32⟩
  | .hbm, ⟨71, _⟩ => ⟨S2x12x40x2048, .f32⟩
  | .hbm, ⟨72, _⟩ => ⟨S_, .f32⟩
  | .hbm, ⟨73, _⟩ => ⟨S2x12x40, .f32⟩
  | .hbm, ⟨74, _⟩ => ⟨S2x12x40x1, .f32⟩
  | .hbm, ⟨75, _⟩ => ⟨S2x12x40x2048, .f32⟩
  | .hbm, ⟨76, _⟩ => ⟨S2x12x40x2048, .f32⟩
  | .hbm, ⟨77, _⟩ => ⟨S2x12x40x64, .f32⟩
  | .hbm, ⟨78, _⟩ => ⟨S_, .i32⟩
  | .hbm, ⟨79, _⟩ => ⟨S2x1x1, .i32⟩
  | .hbm, ⟨80, _⟩ => ⟨S2x1x1, .i1⟩
  | .hbm, ⟨81, _⟩ => ⟨S_, .i32⟩
  | .hbm, ⟨82, _⟩ => ⟨S2x1x1, .i32⟩
  | .hbm, ⟨83, _⟩ => ⟨S2x1x1, .i32⟩
  | .hbm, ⟨84, _⟩ => ⟨S2x1x1, .i32⟩
  | .hbm, ⟨85, _⟩ => ⟨S_, .i32⟩
  | .hbm, ⟨86, _⟩ => ⟨S1x12x1, .i32⟩
  | .hbm, ⟨87, _⟩ => ⟨S1x12x1, .i1⟩
  | .hbm, ⟨88, _⟩ => ⟨S_, .i32⟩
  | .hbm, ⟨89, _⟩ => ⟨S1x12x1, .i32⟩
  | .hbm, ⟨90, _⟩ => ⟨S1x12x1, .i32⟩
  | .hbm, ⟨91, _⟩ => ⟨S1x12x1, .i32⟩
  | .hbm, ⟨92, _⟩ => ⟨S_, .i32⟩
  | .hbm, ⟨93, _⟩ => ⟨S2x12x40, .i32⟩
  | .hbm, ⟨94, _⟩ => ⟨S2x12x40, .i1⟩
  | .hbm, ⟨95, _⟩ => ⟨S_, .i32⟩
  | .hbm, ⟨96, _⟩ => ⟨S2x12x40, .i32⟩
  | .hbm, ⟨97, _⟩ => ⟨S2x12x40, .i32⟩
  | .hbm, ⟨98, _⟩ => ⟨S2x12x40, .i32⟩
  | .hbm, ⟨99, _⟩ => ⟨S2x12x40, .i32⟩
  | .hbm, ⟨100, _⟩ => ⟨S2x12x40, .i32⟩
  | .hbm, ⟨101, _⟩ => ⟨S2x12x40x1, .i32⟩
  | .hbm, ⟨102, _⟩ => ⟨S2x12x40x1, .i32⟩
  | .hbm, ⟨103, _⟩ => ⟨S2x12x40x1, .i32⟩
  | .hbm, ⟨104, _⟩ => ⟨S2x12x40x3, .i32⟩
  | .hbm, ⟨105, _⟩ => ⟨S2x12x2048x64, .f32⟩
  | _, _ => ⟨S2x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_values : Ref sig .tc := ⟨.hbm, 17, rfl⟩
abbrev main_indices : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_15 : Ref sig .tc := ⟨.hbm, 85, rfl⟩
abbrev main_v62 : Ref sig .tc := ⟨.hbm, 86, rfl⟩
abbrev main_v63 : Ref sig .tc := ⟨.hbm, 87, rfl⟩
abbrev main_c_16 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_17 : Ref sig .tc := ⟨.hbm, 92, rfl⟩
abbrev main_v67 : Ref sig .tc := ⟨.hbm, 93, rfl⟩
abbrev main_v68 : Ref sig .tc := ⟨.hbm, 94, rfl⟩
abbrev main_c_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== Proof.BitsFrame.lean ====
module

public import proofs.«01_k».proof.Proof.BitsRunA
public import proofs.«01_k».proof.Proof.BitsRunB
public import proofs.«01_k».proof.Proof.BitsRunC

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the output window's contents are not tracked. -/
def fgt (w : Fin cfg0.W) : Bool := match w with
  | ⟨3, _⟩ => true
  | _ => false

/-- The proof data: the arrays as the region finds them, each input's buffer at its block after every point; the
    output's contents are not tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

/-- The launch's data start from the arrays that the memory holds. -/
theorem A_eq (c : Dev nD) (w : Fin cfg0.W) : (dats m 0 c).A w = V m c (Pipeline.arrRef spec0 w) := by dsimp only [dats]
/-- A step leaves its query window as it found it. -/
theorem after0 (c : Dev nD) (t : Fin cfg0.N) : (dats m 0 c).after 0 t = iblk m c 0 t := by dsimp only [dats]
/-- A step leaves its key window as it found it. -/
theorem after1 (c : Dev nD) (t : Fin cfg0.N) : (dats m 0 c).after 1 t = iblk m c 1 t := by dsimp only [dats]
/-- A step leaves its value window as it found it. -/
theorem after2 (c : Dev nD) (t : Fin cfg0.N) : (dats m 0 c).after 2 t = iblk m c 2 t := by dsimp only [dats]
/-- Before a step the query window holds that step's block. -/
theorem before0 (c : Dev nD) (t : Fin cfg0.N) (d) : (dats m 0 c).before 0 t d = iblk m c 0 t :=
  before0_0_of m (dats m 0 c) (A_eq m c 0) (after0 m c) t d
/-- Before a step the key window holds that step's block. -/
theorem before1 (c : Dev nD) (t : Fin cfg0.N) (d) : (dats m 0 c).before 1 t d = iblk m c 1 t :=
  before0_1_of m (dats m 0 c) (A_eq m c 1) (after1 m c) t d
/-- Before a step the value window holds that step's block. -/
theorem before2 (c : Dev nD) (t : Fin cfg0.N) (d) : (dats m 0 c).before 2 t d = iblk m c 2 t :=
  before0_2_of m (dats m 0 c) (A_eq m c 2) (after2 m c) t d

/-- Input windows are never idle: each ends a point at its block. -/
theorem leaves0 (c : Dev nD) (t : Fin cfg0.N) : (dats m 0 c).leavesExact 0 t = owns (c : Thread nD τ) (mem0 t) fullShare (iblk m c 0 t) := by
  rw [← after0]
/-- What a step gives back of the key window: its block, unchanged. -/
theorem leaves1 (c : Dev nD) (t : Fin cfg0.N) : (dats m 0 c).leavesExact 1 t = owns (c : Thread nD τ) (mem1 t) fullShare (iblk m c 1 t) := by
  rw [← after1]
/-- What a step gives back of the value window: its block, unchanged. -/
theorem leaves2 (c : Dev nD) (t : Fin cfg0.N) : (dats m 0 c).leavesExact 2 t = owns (c : Thread nD τ) (mem2 t) fullShare (iblk m c 2 t) := by
  rw [← after2]

/-- What the body is called with at point `t`, and what it returns: the invariant, the input blocks, and the output's buffer
    at some contents. -/
def inv (c : Dev nD) (t : Fin cfg0.N) : sProp 𝕄 :=
  iprop(Pipeline.ΦA spec0 c
    ∗ owns (c : Thread nD τ) (mem0 t) fullShare (iblk m c 0 t)
    ∗ owns (c : Thread nD τ) (mem1 t) fullShare (iblk m c 1 t)
    ∗ owns (c : Thread nD τ) (mem2 t) fullShare (iblk m c 2 t)
    ∗ (∃ X, owns (c : Thread nD τ) (mem3 t) fullShare X))

/-- The body's triple at every point. -/
theorem sound_body (c : Dev nD) (t : Fin cfg0.N) :
    inv m c t ⊢ wp frame (wpE (defs₀ (F := F)) Variants.none c none) Set.univ (bodyAt0 t) (fun _ => inv m c t) := by
  unfold inv bodyAt0
  rw [PhiA_eq]
  iintro ⟨⟨⟨⟨%f7, H7⟩, ⟨%f8, H8⟩⟩, Hg⟩, H0, H1, H2, ⟨%X, H3⟩⟩
  ihave P0 := (pt_of_owns c (mem0 t) (whole0 t) (iblk m c 0 t)) $$ H0
  ihave P1 := (pt_of_owns c (mem1 t) (whole1 t) (iblk m c 1 t)) $$ H1
  ihave P2 := (pt_of_owns c (mem2 t) (whole2 t) (iblk m c 2 t)) $$ H2
  ihave P3 := (pt_of_owns c (mem3 t) (whole3 t) X) $$ H3
  by_cases h1 : t.val < 12
  · iapply ((runA c (grid0.coords t) _ _ _ _ (mem2 t) (whole2 t) (mem3 t) (whole3 t) _ _ scr1 _ ((hcond1 t).mpr h1) (fun h => by have := (hcond2 t).mp h; omega) (fun h => by have := (hcond3 t).mp h; omega) _ _ f7).2 Set.univ _)
    isplitl [P0]; · iexact P0
    isplitl [P1]; · iexact P1
    isplitl [H7]; · iexact H7
    iintro ⟨P0, P1, H7⟩
    isplitl [H7 H8 Hg]
    · isplitl [H7 H8]
      · isplitl [H7]
        · iexists _; iexact H7
        iexists _; iexact H8
      iexact Hg
    isplitl [P0]; · iapply (owns_unread c _ (whole0 t)); iexact P0
    isplitl [P1]; · iapply (owns_unread c _ (whole1 t)); iexact P1
    isplitl [P2]; · iapply (owns_unread c _ (whole2 t)); iexact P2
    iexists _; iapply (owns_of_pt c _ (whole3 t)); iexact P3
  · by_cases h2 : t.val = 12
    · iapply ((runB c (grid0.coords t) _ _ _ _ _ _ _ _ _ _ _ _ (fun h => h1 ((hcond1 t).mp h)) ((hcond2 t).mpr h2) ((hcond3 t).mpr (by omega)) _ _ _ _ f7 f8).2 Set.univ _)
      isplitl [P0]; · iexact P0
      isplitl [P1]; · iexact P1
      isplitl [P2]; · iexact P2
      isplitl [P3]; · iexact P3
      isplitl [H7]; · iexact H7
      isplitl [H8]; · iexact H8
      iintro ⟨P0, P1, P2, P3, H7, H8⟩
      isplitl [H7 H8 Hg]
      · isplitl [H7 H8]
        · isplitl [H7]
          · iexists _; iexact H7
          iexists _; iexact H8
        iexact Hg
      isplitl [P0]; · iapply (owns_unread c _ (whole0 t)); iexact P0
      isplitl [P1]; · iapply (owns_unread c _ (whole1 t)); iexact P1
      isplitl [P2]; · iapply (owns_unread c _ (whole2 t)); iexact P2
      iexists _; iapply (owns_of_pt c _ (whole3 t)); iexact P3
    · iapply ((runC c (grid0.coords t) _ _ _ _ _ _ _ _ scr0 (Memref.isWhole_whole _) _ _ (fun h => h1 ((hcond1 t).mp h)) (fun h => h2 ((hcond2 t).mp h)) ((hcond3 t).mpr (by omega)) _ _ _ _ f8).2 Set.univ _)
      isplitl [P0]; · iexact P0
      isplitl [P1]; · iexact P1
      isplitl [P2]; · iexact P2
      isplitl [P3]; · iexact P3
      isplitl [H8]; · iexact H8
      iintro ⟨P0, P1, P2, P3, H8⟩
      isplitl [H7 H8 Hg]
      · isplitl [H7 H8]
        · isplitl [H7]
          · iexists _; iexact H7
          iexists _; iexact H8
        iexact Hg
      isplitl [P0]; · iapply (owns_unread c _ (whole0 t)); iexact P0
      isplitl [P1]; · iapply (owns_unread c _ (whole1 t)); iexact P1
      isplitl [P2]; · iapply (owns_unread c _ (whole2 t)); iexact P2
      iexists _; iapply (owns_of_pt c _ (whole3 t)); iexact P3

/-- The body table's row at point `t` is the body there. -/
theorem defs₀_row (t : Fin cfg0.N) : defs₀ (F := F) .tc cfg0.body (cfg0.bodyArgs t (cfg0.slots t)) = bodyAt0 t := by
  unfold defs₀; rw [Defs.onTc_tc]

/-- What the pipeline calls the body with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ X, owns (c : Thread nD τ) (mem3 t) fullShare X))

/-- and what it expects back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (∃ X, owns (c : Thread nD τ) (mem3 t) fullShare X))

/-- The body's triple in the pipeline's terms. -/
theorem body_triple (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2]
  rw [leaves0, leaves1, leaves2, show (dats m 0 c).owesAt () t.succ = (dats m 0 c).owesAt () t.castSucc from rfl,
    show (dats m 0 c).Φ t.succ = Pipeline.ΦA spec0 c from rfl, show (dats m 0 c).Φ t.castSucc = Pipeline.ΦA spec0 c from rfl]
  refine triple_restated (P := iprop((dats m 0 c).owesAt () t.castSucc ∗ inv m c t)) (Q := fun _ => iprop((dats m 0 c).owesAt () t.castSucc ∗ inv m c t)) ?_ rfl ?_ fun _ => ?_
  · iintro ⟨Ho, H⟩
    iapply wp_frame_l
    isplitl [Ho]; · iexact Ho
    iapply (sound_body m c t); iexact H
  · unfold inv
    iintro ⟨HP, Ho, ⟨%d0, H0⟩, ⟨%d1, H1⟩, ⟨%d2, H2⟩, H3⟩
    isplitl [Ho]; · iexact Ho
    isplitl [HP]; · iexact HP
    isplitl [H0]; · iexact H0
    isplitl [H1]; · iexact H1
    isplitl [H2]; · iexact H2
    iexact H3
  · unfold inv
    iintro ⟨Ho, HP, H0, H1, H2, H3⟩
    isplitl [HP]; · iexact HP
    isplitl [Ho]; · iexact Ho
    isplitl [H0]; · iexact H0
    isplitl [H1]; · iexact H1
    isplitl [H2]; · iexact H2
    iexact H3

/-- The pipeline's obligation for the body, the output's contents not tracked. -/
theorem body_obligation (c : Dev nD) : BodyObligation (dats (F := F) m 0 c) (defs₀ (F := F)) Variants.none () Set.univ fgt := fun t => by
  rw [bigSep_W0, bigSep_W0, defs₀_row]
  exact triple_restated (body_triple m c t) rfl .rfl fun _ => .rfl

set_option backward.isDefEq.respectTransparency.types false in
/-- The launch: every run ends with every buffer that is no window's array as the region found it and every counter zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters every run of the program ends, without a fault, with its arguments unchanged and
    every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Kernel.Body

end
-- ==== Proof.IdealBase.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's second conditional (phase one, first batch, first head pair), from the grid coordinates. -/
abbrev condTopk (i : grid0.Coords) : Prop :=
  Scalar.cmpi .ne (Scalar.extui (Scalar.andi (Scalar.andi (Scalar.cmpi .eq (BitVec.ofNat 32 (i 0).val) 1#32) (Scalar.cmpi .eq (BitVec.ofNat 32 (i 1).val) 0#32)) (Scalar.cmpi .eq (BitVec.ofNat 32 (i 2).val) 0#32))) 0#32 = 1#1

/-- A memref's buffer on core `c` held whole at the contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A whole memref owned at `X` is its buffer held at the contents that read as `X`. -/
theorem pt_of_owns (c : Dev nD) {sp : Space} {S : Shape} {e : EltTy} (M : Memref sig .tc sp S e) (h : M.IsWhole) (X : S.Idx → Elt F e) :
    owns (c : Thread nD τ) M fullShare X ⊢ pt c M (h.unread X) := by
  unfold owns pt
  iintro ⟨%f, %hf, H⟩
  obtain rfl := h.eq_unread hf
  rw [h.set_eq_univ]
  iexact H

/-- A whole memref's buffer held at `f` is the memref owned at what `f` reads as. -/
theorem owns_of_pt (c : Dev nD) {sp : Space} {S : Shape} {e : EltTy} (M : Memref sig .tc sp S e) (h : M.IsWhole) (f : Buf (Elt F) (M.view.loc (c : Thread nD τ))) :
    pt c M f ⊢ owns (c : Thread nD τ) M fullShare (M.view.read (Elt F) f) := by
  unfold owns pt
  iintro H
  iexists f
  isplitr
  · ipureintro; rfl
  rw [h.set_eq_univ]
  iexact H

/-- The contents of a whole memref that read as `X` are the memref owned at `X`. -/
theorem owns_unread (c : Dev nD) {sp : Space} {S : Shape} {e : EltTy} (M : Memref sig .tc sp S e) (h : M.IsWhole) {X : S.Idx → Elt F e} :
    pt c M (h.unread X) ⊢ owns (c : Thread nD τ) M fullShare X := by
  have := owns_of_pt (F := F) c M h (h.unread X)
  rwa [h.read_unread] at this

/-- The grid point's coordinates: phase, batch and head pair, from its position in the order of execution. -/
theorem coords_val (t : Fin cfg0.N) : ((grid0.coords t) 0).val = t.val / 12 % 2 ∧ ((grid0.coords t) 1).val = t.val / 6 % 2 ∧ ((grid0.coords t) 2).val = t.val % 6 :=
  have e2 : (grid0.coords t 2).val = t.val / 1 % 6 := Pipeline.Grid.coords_val t 2 (by decide) rfl
  ⟨Pipeline.Grid.coords_val t 0 (by decide) rfl, Pipeline.Grid.coords_val t 1 (by decide) rfl, by rw [e2, Nat.div_one]⟩

/-- The measure is computed at the first twelve points. -/
theorem hcond1 (t : Fin cfg0.N) : k0_cond1 (grid0.coords t) = 1#1 ↔ t.val < 12 := by
  have ht : t.val < 24 := Nat.lt_of_lt_of_eq t.isLt N_0
  obtain ⟨e0, e1, e2⟩ := coords_val t
  simp only [k0_cond1, e0, e1, e2]
  word_cmp

/-- The indices are selected at point twelve only. -/
theorem hcond2 (t : Fin cfg0.N) : condTopk (grid0.coords t) ↔ t.val = 12 := by
  have ht : t.val < 24 := Nat.lt_of_lt_of_eq t.isLt N_0
  obtain ⟨e0, e1, e2⟩ := coords_val t
  simp only [condTopk, e0, e1, e2]
  word_cmp

/-- The output blocks are stored from point twelve on. -/
theorem hcond3 (t : Fin cfg0.N) : k0_cond3 (grid0.coords t) = 1#1 ↔ 12 ≤ t.val := by
  have ht : t.val < 24 := Nat.lt_of_lt_of_eq t.isLt N_0
  obtain ⟨e0, e1, e2⟩ := coords_val t
  simp only [k0_cond3, e0, e1, e2]
  word_cmp

/-- The current staging memref of each window at point `t`, and its wholeness. -/
abbrev mem0 (t : Fin cfg0.N) : Memref sig .tc .vmem S1x2048x128 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S1x2048x128 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x2048x128 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1x2x2048x64 .f32 := win0_3.stage (cfg0.slots t 3)
abbrev whole3 (t : Fin cfg0.N) : (mem3 t).IsWhole := hstage0_3 ((cfg0.slots t 3).cast nbuf0_3)
/-- The two scratch buffers. -/
abbrev scr0 : Memref sig .tc .vmem S24x2048 .f32 := Memref.whole cc0_scratch0
abbrev scr1 : Memref sig .tc .vmem S24x40 .i32 := Memref.whole cc0_scratch1

/-- The region's invariant: both scratch buffers at some contents, the generator register at some state. -/
theorem PhiA_eq (c : Dev nD) :
    (Pipeline.ΦA spec0 c : sProp 𝕄)
      = iprop(((∃ f, pt c scr0 f) ∗ (∃ f, pt c scr1 f)) ∗ (∃ r, prngReg c r)) := by
  unfold Pipeline.ΦA; rw [scopedRest0_eq]

end Cert.KernelIdeal.Body

end
-- ==== Proof.IdealRunA.lean ====
module

public import proofs.«01_k».proof.Proof.IdealBase

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body in phase zero: it reads the query and key blocks and stores two rows of the measure into the first scratch buffer; `W` is what that buffer ends with. -/
noncomputable def runA (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole)
    (arg6 : Memref sig .tc .vmem S1x2x2048x64 .f32) (harg6 : arg6.IsWhole) (arg7 : Memref sig .tc .vmem S24x2048 .f32) (harg7 : arg7.IsWhole) (arg8 : Memref sig .tc .vmem S24x40 .i32) (harg8 : arg8.IsWhole)
    (h1 : k0_cond1 i = 1#1) (h2 : ¬ condTopk i) (h3 : ¬ k0_cond3 i = 1#1)
    (f3 : Buf (Elt F) (arg3.view.loc (c : Thread nD τ))) (f4 : Buf (Elt F) (arg4.view.loc (c : Thread nD τ))) (f7 : Buf (Elt F) (arg7.view.loc (c : Thread nD τ))) :
    { W : Buf (Elt F) (arg7.view.loc (c : Thread nD τ)) // ∀ (E : Set ℕ) (K : PUnit → sProp 𝕄),
      iprop(pt c arg3 f3 ∗ pt c arg4 f4 ∗ pt c arg7 f7
        ∗ (iprop(pt c arg3 (f3) ∗ pt c arg4 (f4) ∗ pt c arg7 (W)) -∗ K ⟨⟩))
      ⊢ wp frame (wpE (defs₀ (F := F)) Variants.none c none) E (cc0__fused_kernel i arg3 harg3 arg4 harg4 arg5 harg5 arg6 harg6 arg7 harg7 arg8 harg8) K } := by
  refine ⟨?_, fun E K => ?run⟩
  case run =>
    simp only [cc0__fused_kernel_eq_skeleton]; unfold cc0__fused_kernel_skel
    iintro ⟨H3, H4, H7, Hk⟩
    sl_exec_parts (disch := first | sl_exact h1 | sl_exact h2 | sl_exact h3)
    sl_step
    iapply Hk
    isplitl [H3]; · iexact H3
    isplitl [H4]; · iexact H4
    iexact H7

end Cert.KernelIdeal.Body

end
-- ==== Proof.IdealMeasure.lean ====
module

public import proofs.«01_k».proof.Proof.IdealRunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Offsets of eight consecutive rows stay inside a block of scores. -/
theorem slices_rows (n : ℕ) : S512x2048.Slices ![8 * (n % 64), 0] S8x2048 := by
  refine ⟨rfl, fun a => ?_⟩
  fin_cases a
  · show 8 * (n % 64) + 8 ≤ 512
    omega
  · show 0 + 2048 ≤ 2048
    omega

/-- Eight consecutive rows of a block of scores. -/
def slab (s : FVec F S512x2048 .f32) (n : ℕ) : FVec F S8x2048 .f32 :=
  extractStridedSlice S8x2048 ![8 * (n % 64), 0] s (slices_rows n)

/-- The 64 slabs of a block, in order. -/
def steps : List ℕ := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63]

/-- The running maximum over the slabs of a block. -/
def foldMax (s : FVec F S512x2048 .f32) (a : FVec F S8x2048 .f32) : FVec F S8x2048 .f32 :=
  (steps.foldl (fun x j => maximumf x (slab s j)) a)

/-- The running sum over the slabs of a block. -/
def foldAdd (s : FVec F S512x2048 .f32) (a : FVec F S8x2048 .f32) : FVec F S8x2048 .f32 :=
  (steps.foldl (fun x j => addf x (slab s j)) a)

/-- The measure of every query from the four blocks of scores. -/
def measV (s0 s1 s2 s3 : FVec F S512x2048 .f32) : FVec F S1x2048 .f32 :=
  shapeCast S1x2048
    (subf
      (shapeCast S1x2048 (multiReduction .maximumf [0] S2048
        (foldMax s3 (foldMax s2 (foldMax s1 (foldMax s0 (broadcast S8x2048 (Scalar.ofBits .f32 0xFF800000#32))))))
        0xFF800000#32 reduces_S8x2048_S2048 (.inl rfl) rfl) shapeCasts_S2048_S1x2048)
      (mulf
        (shapeCast S1x2048 (multiReduction .add [0] S2048
          (foldAdd s3 (foldAdd s2 (foldAdd s1 (foldAdd s0 (broadcast S8x2048 (Scalar.ofBits .f32 0x00000000#32))))))
          0x00000000#32 reduces_S8x2048_S2048 (.inl rfl) rfl) shapeCasts_S2048_S1x2048)
        (broadcast S1x2048 (Scalar.ofBits .f32 0x3A000000#32))))
    shapeCasts_S1x2048_S1x2048

/-- A block of scores: 512 keys against all queries of one head. -/
def scoreV (q : FVec F S2048x64 .f32) (k : Vec F S1x512x64 .f32) : FVec F S512x2048 .f32 :=
  matmul dot_S512x64_S2048x64_S512x2048_1_1_0_0_n_n none (shapeCast S512x64 k shapeCasts_S1x512x64_S512x64) q
    (constant S512x2048 .f32 0x00000000#32)

/-- The two heads' columns of a block. -/
def headV (x : Vec F S1x2048x128 .f32) : Fin 2 → FVec F S2048x64 .f32
  | ⟨0, _⟩ => extractStridedSlice S2048x64 ![0, 0] (shapeCast S2048x128 x shapeCasts_S1x2048x128_S2048x128) slices_S2048x128_o0_0_S2048x64
  | ⟨1, _⟩ => extractStridedSlice S2048x64 ![0, 64] (shapeCast S2048x128 x shapeCasts_S1x2048x128_S2048x128) slices_S2048x128_o0_64_S2048x64

section
variable (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole)
    (arg6 : Memref sig .tc .vmem S1x2x2048x64 .f32) (harg6 : arg6.IsWhole) (arg7 : Memref sig .tc .vmem S24x2048 .f32) (harg7 : arg7.IsWhole) (arg8 : Memref sig .tc .vmem S24x40 .i32) (harg8 : arg8.IsWhole)
    (h1 : k0_cond1 i = 1#1) (h2 : ¬ condTopk i) (h3 : ¬ k0_cond3 i = 1#1)
    (f3 : Buf (Elt F) (arg3.view.loc (c : Thread nD τ))) (f4 : Buf (Elt F) (arg4.view.loc (c : Thread nD τ))) (f7 : Buf (Elt F) (arg7.view.loc (c : Thread nD τ)))

/-- The first head is the first 64 columns of the block. -/
theorem headV_zero (x : Vec F S1x2048x128 .f32) : headV x 0 = extractStridedSlice S2048x64 ![0, 0] (shapeCast S2048x128 x shapeCasts_S1x2048x128_S2048x128) slices_S2048x128_o0_0_S2048x64 := rfl

/-- The second head is the last 64 columns of the block. -/
theorem headV_one (x : Vec F S1x2048x128 .f32) : headV x 1 = extractStridedSlice S2048x64 ![0, 64] (shapeCast S2048x128 x shapeCasts_S1x2048x128_S2048x128) slices_S2048x128_o0_64_S2048x64 := rfl

/-- The query block as it is loaded. -/
abbrev ldQ : Vec F S1x2048x128 .f32 :=
  arg3.view.readAt (Elt F) (Rect.unit (s := S1x2048x128) ![0, 0, 0] S1x2048x128.size inb_S1x2048x128_S1x2048x128_0_0_0).toLoadRect f3

/-- 512 keys of one head as they are loaded. -/
abbrev ldK (o : Fin 3 → ℕ) (ho : ∀ a, o a + S1x512x64.size a ≤ S1x2048x128.size a) : Vec F S1x512x64 .f32 :=
  arg4.view.readAt (Elt F) (Rect.unit (s := S1x2048x128) o S1x512x64.size ho).toLoadRect f4

/-- The row stored for the first head of a block. -/
def row0 : FVec F S1x2048 .f32 :=
  measV (scoreV (headV (ldQ c arg3 f3) 0) (ldK c arg4 f4 ![0, 0, 0] inb_S1x2048x128_S1x512x64_0_0_0))
      (scoreV (headV (ldQ c arg3 f3) 0) (ldK c arg4 f4 ![0, 512, 0] inb_S1x2048x128_S1x512x64_0_512_0))
      (scoreV (headV (ldQ c arg3 f3) 0) (ldK c arg4 f4 ![0, 1024, 0] inb_S1x2048x128_S1x512x64_0_1024_0))
      (scoreV (headV (ldQ c arg3 f3) 0) (ldK c arg4 f4 ![0, 1536, 0] inb_S1x2048x128_S1x512x64_0_1536_0))

/-- The row stored for the second head of a block. -/
def row1 : FVec F S1x2048 .f32 :=
  measV (scoreV (headV (ldQ c arg3 f3) 1) (ldK c arg4 f4 ![0, 0, 64] inb_S1x2048x128_S1x512x64_0_0_64))
      (scoreV (headV (ldQ c arg3 f3) 1) (ldK c arg4 f4 ![0, 512, 64] inb_S1x2048x128_S1x512x64_0_512_64))
      (scoreV (headV (ldQ c arg3 f3) 1) (ldK c arg4 f4 ![0, 1024, 64] inb_S1x2048x128_S1x512x64_0_1024_64))
      (scoreV (headV (ldQ c arg3 f3) 1) (ldK c arg4 f4 ![0, 1536, 64] inb_S1x2048x128_S1x512x64_0_1536_64))

set_option maxHeartbeats 1000000 in
set_option maxRecDepth 100000 in
/-- The value the body stores for the first head is the measure of that head. -/
theorem row0_eq : k0_pay285 (runA.sl.r_31 c arg3 arg4 f3 f4) (runA.sl.r_38 c arg3 arg4 f3 f4) (runA.sl.r_39 c arg3 arg4 f3 f4) (runA.sl.r_40 c arg3 arg4 f3 f4)
    = row0 c arg3 arg4 f3 f4 := by
  simp only [row0, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r, measV, scoreV, headV_zero, headV_one, foldMax, foldAdd, steps, slab, List.foldl_cons, List.foldl_nil, Nat.reduceMul, Nat.reduceMod, ldQ, ldK]

set_option maxHeartbeats 1000000 in
set_option maxRecDepth 100000 in
/-- The value the body stores for the second head is the measure of that head. -/
theorem row1_eq : k0_pay1 (runA.sl.r_71 c arg3 arg4 f3 f4) (runA.sl.r_80 c arg3 arg4 f3 f4) (runA.sl.r_81 c arg3 arg4 f3 f4) (runA.sl.r_82 c arg3 arg4 f3 f4)
    = row1 c arg3 arg4 f3 f4 := by
  simp only [row1, k0_pay1, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, runA.sl.r_75, runA.sl.r_76, runA.sl.r_77, runA.sl.r_78, runA.sl.r_79, runA.sl.r_80, runA.sl.r_81, runA.sl.r_82, runA.sl.cst_34, measV, scoreV, headV_zero, headV_one, foldMax, foldAdd, steps, slab, List.foldl_cons, List.foldl_nil, Nat.reduceMul, Nat.reduceMod, ldQ, ldK]

/-- What the phase leaves in the first scratch buffer: two stored rows. -/
theorem runA_fst : (runA c i arg3 harg3 arg4 harg4 arg5 harg5 arg6 harg6 arg7 harg7 arg8 harg8 h1 h2 h3 f3 f4 f7).1
    = arg7.view.writes (Elt F) f7
      [⟨Rect.unit (s := S24x2048) (k0_off1 i 1#32) S1x2048.size (k0_off1_inb i h1 1), row1 c arg3 arg4 f3 f4⟩,
        ⟨Rect.unit (s := S24x2048) (k0_off1 i 0#32) S1x2048.size (k0_off1_inb i h1 0), row0 c arg3 arg4 f3 f4⟩] := by
  unfold runA
  dsimp only
  rw [row1_eq]
  unfold runA.sl.H7_1
  rw [row0_eq]

end

end Cert.KernelIdeal.Body

end
-- ==== Proof.IdealRunB.lean ====
module

public import proofs.«01_k».proof.Proof.IdealBase

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body at the first point of phase one: it fills the index scratch from the measure scratch and stores the output block; `W` is what the output block and the index scratch end with. -/
noncomputable def runB (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole)
    (arg6 : Memref sig .tc .vmem S1x2x2048x64 .f32) (harg6 : arg6.IsWhole) (arg7 : Memref sig .tc .vmem S24x2048 .f32) (harg7 : arg7.IsWhole) (arg8 : Memref sig .tc .vmem S24x40 .i32) (harg8 : arg8.IsWhole)
    (h1 : ¬ k0_cond1 i = 1#1) (h2 : condTopk i) (h3 : k0_cond3 i = 1#1)
    (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) :
    { W : Buf (Elt F) (arg6.view.loc (c : Thread nD τ)) × Buf (Elt F) (arg8.view.loc (c : Thread nD τ)) // ∀ (E : Set ℕ) (K : PUnit → sProp 𝕄),
      iprop(pt c arg3 f3 ∗ pt c arg4 f4 ∗ pt c arg5 f5 ∗ pt c arg6 f6 ∗ pt c arg7 f7 ∗ pt c arg8 f8
        ∗ (iprop(pt c arg3 (f3) ∗ pt c arg4 (f4) ∗ pt c arg5 (f5) ∗ pt c arg6 (W.1) ∗ pt c arg7 (f7) ∗ pt c arg8 (W.2)) -∗ K ⟨⟩))
      ⊢ wp frame (wpE (defs₀ (F := F)) Variants.none c none) E (cc0__fused_kernel i arg3 harg3 arg4 harg4 arg5 harg5 arg6 harg6 arg7 harg7 arg8 harg8) K } := by
  refine ⟨⟨?_, ?_⟩, fun E K => ?run⟩
  case run =>
    simp only [cc0__fused_kernel_eq_skeleton]; unfold cc0__fused_kernel_skel
    iintro ⟨H3, H4, H5, H6, H7, H8, Hk⟩
    sl_exec_parts (disch := first | sl_exact h1 | sl_exact h2 | sl_exact h3)
    sl_step
    iapply Hk
    isplitl [H3]; · iexact H3
    isplitl [H4]; · iexact H4
    isplitl [H5]; · iexact H5
    isplitl [H6]; · iexact H6
    isplitl [H7]; · iexact H7
    iexact H8

end Cert.KernelIdeal.Body

end
-- ==== Proof.IdealRunC.lean ====
module

public import proofs.«01_k».proof.Proof.IdealBase

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body at the other points of phase one: it reads the index scratch and stores the output block; `W` is what the output block ends with. -/
noncomputable def runC (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole)
    (arg6 : Memref sig .tc .vmem S1x2x2048x64 .f32) (harg6 : arg6.IsWhole) (arg7 : Memref sig .tc .vmem S24x2048 .f32) (harg7 : arg7.IsWhole) (arg8 : Memref sig .tc .vmem S24x40 .i32) (harg8 : arg8.IsWhole)
    (h1 : ¬ k0_cond1 i = 1#1) (h2 : ¬ condTopk i) (h3 : k0_cond3 i = 1#1)
    (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f8 : Buf (Elt F) (arg8.view.loc (c : Thread nD τ))) :
    { W : Buf (Elt F) (arg6.view.loc (c : Thread nD τ)) // ∀ (E : Set ℕ) (K : PUnit → sProp 𝕄),
      iprop(pt c arg3 f3 ∗ pt c arg4 f4 ∗ pt c arg5 f5 ∗ pt c arg6 f6 ∗ pt c arg8 f8
        ∗ (iprop(pt c arg3 (f3) ∗ pt c arg4 (f4) ∗ pt c arg5 (f5) ∗ pt c arg6 (W) ∗ pt c arg8 (f8)) -∗ K ⟨⟩))
      ⊢ wp frame (wpE (defs₀ (F := F)) Variants.none c none) E (cc0__fused_kernel i arg3 harg3 arg4 harg4 arg5 harg5 arg6 harg6 arg7 harg7 arg8 harg8) K } := by
  refine ⟨?_, fun E K => ?run⟩
  case run =>
    simp only [cc0__fused_kernel_eq_skeleton]; unfold cc0__fused_kernel_skel
    iintro ⟨H3, H4, H5, H6, H8, Hk⟩
    sl_exec_parts (disch := first | sl_exact h1 | sl_exact h2 | sl_exact h3)
    sl_step
    iapply Hk
    isplitl [H3]; · iexact H3
    isplitl [H4]; · iexact H4
    isplitl [H5]; · iexact H5
    isplitl [H6]; · iexact H6
    iexact H8

end Cert.KernelIdeal.Body

end
-- ==== Proof.IdealTopk.lean ====
module

public import proofs.«01_k».proof.Proof.IdealMeasure
public import proofs.«01_k».proof.Proof.IdealRunB
public import proofs.«01_k».proof.Proof.IdealRunC

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- In each row, the least column that attains the row's maximum. -/
def selV (m : FVec F S24x2048 .f32) : IVec S24x1 32 :=
  shapeCast S24x1 (multiReductionI .minsi [1] S24
    (select (cmpf .oeq m (broadcastTo S24x2048 (shapeCast S24x1
        (multiReduction .maximumf [1] S24 m 0xFF800000#32 reduces_S24x2048_S24 (.inl rfl) rfl) shapeCasts_S24_S24x1) broadcasts_S24x1_S24x2048))
      (iota .tc S24x2048 32 [1] iota_S24x2048_d1_w32) (broadcast S24x2048 2048#32))
    2147483647#32 reduces_S24x2048_S24 rfl) shapeCasts_S24_S24x1

/-- The same rows with the selected column of each set to minus infinity. -/
def nextV (m : FVec F S24x2048 .f32) : FVec F S24x2048 .f32 :=
  select (cmpi .eq (iota .tc S24x2048 32 [1] iota_S24x2048_d1_w32) (broadcastTo S24x2048 (selV m) broadcasts_S24x1_S24x2048))
    (broadcast S24x2048 (Scalar.ofBits .f32 0xFF800000#32)) m

/-- The rows after `t` selections. -/
def curV (m : FVec F S24x2048 .f32) : ℕ → FVec F S24x2048 .f32
  | 0 => m
  | t + 1 => nextV (curV m t)

/-- A column of positions lies within the scratch array. -/
theorem slices_col (t : ℕ) : ∀ a, (![0, t % 40] : Fin 2 → ℕ) a + S24x1.size a ≤ S24x40.size a := by
  intro a
  fin_cases a
  · show 0 + 24 ≤ 24
    omega
  · show t % 40 + 1 ≤ 40
    omega

/-- The column of selected positions stored at step `t`. -/
def colPiece (m : FVec F S24x2048 .f32) (t : ℕ) : View.Piece (Elt F) S24x40 .i32 :=
  ⟨Rect.unit (s := S24x40) ![0, t % 40] S24x1.size (slices_col t), shapeCast S24x1 (selV (curV m t)) shapeCasts_S24x1_S24x1⟩

/-- The forty columns stored, the newest first. -/
def colPieces (m : FVec F S24x2048 .f32) : List (View.Piece (Elt F) S24x40 .i32) :=
  [colPiece m 39, colPiece m 38, colPiece m 37, colPiece m 36, colPiece m 35, colPiece m 34, colPiece m 33, colPiece m 32, colPiece m 31, colPiece m 30, colPiece m 29, colPiece m 28, colPiece m 27, colPiece m 26, colPiece m 25, colPiece m 24, colPiece m 23, colPiece m 22, colPiece m 21, colPiece m 20, colPiece m 19, colPiece m 18, colPiece m 17, colPiece m 16, colPiece m 15, colPiece m 14, colPiece m 13, colPiece m 12, colPiece m 11, colPiece m 10, colPiece m 9, colPiece m 8, colPiece m 7, colPiece m 6, colPiece m 5, colPiece m 4, colPiece m 3, colPiece m 2, colPiece m 1, colPiece m 0]

section
variable (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole)
    (arg6 : Memref sig .tc .vmem S1x2x2048x64 .f32) (harg6 : arg6.IsWhole) (arg7 : Memref sig .tc .vmem S24x2048 .f32) (harg7 : arg7.IsWhole) (arg8 : Memref sig .tc .vmem S24x40 .i32) (harg8 : arg8.IsWhole)
    (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) (f8 : Buf (Elt F) (arg8.view.loc (c : Thread nD τ)))

/-- The measure as it is loaded. -/
abbrev ldM : Vec F S24x2048 .f32 :=
  arg7.view.readAt (Elt F) (Rect.unit (s := S24x2048) ![0, 0] S24x2048.size inb_S24x2048_S24x2048_0_0).toLoadRect f7

set_option maxHeartbeats 1000000 in
/-- The forty stored columns are the forty selections. -/
theorem cols_eq : runB.sl.H8_40 c arg7 f7 = colPieces (ldM c arg7 f7) := rfl

end

end Cert.KernelIdeal.Body

end
-- ==== Proof.IdealAttend.lean ====
module

public import proofs.«01_k».proof.Proof.IdealTopk

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Row `j` is one at the position the list holds at `j` and zero elsewhere. -/
def oneV (idx : Vec F S1x40 .i32) : FVec F S40x2048 .f32 :=
  select (cmpi .eq (broadcastTo S40x2048 (transpose S40x1 [1, 0] idx transposes_S1x40_p1_0_S40x1) broadcasts_S40x1_S40x2048)
      (iota .tc S40x2048 32 [1] iota_S40x2048_d1_w32))
    (broadcast S40x2048 (Scalar.ofBits .f32 0x3F800000#32)) (broadcast S40x2048 (Scalar.ofBits .f32 0x00000000#32))

/-- The scaled scores of the selected queries. -/
def scV (idx : Vec F S1x40 .i32) (q k : FVec F S2048x64 .f32) : FVec F S40x2048 .f32 :=
  mulf (matmul dot_S40x64_S2048x64_S40x2048_1_1_0_0_n_n none
      (matmul dot_S40x2048_S2048x64_S40x64_1_0_0_1_n_n (some .fp32) (oneV idx) q (constant S40x64 .f32 0x00000000#32)) k
      (constant S40x2048 .f32 0x00000000#32))
    (broadcast S40x2048 (Scalar.ofBits .f32 0x3E000000#32))

/-- Exponentials of the scores less their row's maximum. -/
def exV (s : FVec F S40x2048 .f32) : FVec F S40x2048 .f32 :=
  exp (subf s (broadcastTo S40x2048 (shapeCast S40x1
    (multiReduction .maximumf [1] S40 s 0xFF800000#32 reduces_S40x2048_S40 (.inl rfl) rfl) shapeCasts_S40_S40x1) broadcasts_S40x1_S40x2048))

/-- Rows divided by their sums. -/
def nmV (e : FVec F S40x2048 .f32) : FVec F S40x2048 .f32 :=
  divf e (broadcastTo S40x2048 (shapeCast S40x1
    (multiReduction .add [1] S40 e 0x00000000#32 reduces_S40x2048_S40 (.inl rfl) rfl) shapeCasts_S40_S40x1) broadcasts_S40x1_S40x2048)

/-- The updates: the softmax of the scores applied to the values. -/
def upV (idx : Vec F S1x40 .i32) (q k v : FVec F S2048x64 .f32) : FVec F S40x64 .f32 :=
  matmul dot_S40x2048_S2048x64_S40x64_1_0_0_1_n_n none (nmV (exV (scV idx q k))) v (constant S40x64 .f32 0x00000000#32)

/-- The mean of the values. -/
def mnV (v : FVec F S2048x64 .f32) : FVec F S1x64 .f32 :=
  mulf (shapeCast S1x64 (multiReduction .add [0] S64 v 0x00000000#32 reduces_S2048x64_S64 (.inl rfl) rfl) shapeCasts_S64_S1x64)
    (broadcast S1x64 (Scalar.ofBits .f32 0x3A000000#32))

/-- How often each position is in the list. -/
def ctV (idx : Vec F S1x40 .i32) : FVec F S2048x1 .f32 :=
  matmul dot_S40x2048_S40x1_S2048x1_0_0_1_1_n_n (some .fp32) (oneV idx) (broadcast S40x1 (Scalar.ofBits .f32 0x3F800000#32))
    (constant S2048x1 .f32 0x00000000#32)

/-- The block of one head: the update where a position is listed, the mean of the values elsewhere. -/
def attV (idx : Vec F S1x40 .i32) (q k v : FVec F S2048x64 .f32) : FVec F S1x1x2048x64 .f32 :=
  shapeCast S1x1x2048x64
    (select (broadcastTo S2048x64 (shapeCast S2048x1 (cmpf .ogt (ctV idx) (broadcast S2048x1 (Scalar.ofBits .f32 0x3F000000#32)))
        shapeCasts_S2048x1_S2048x1) broadcasts_S2048x1_S2048x64)
      (matmul dot_S40x2048_S40x64_S2048x64_0_0_1_1_n_n (some .fp32) (oneV idx) (upV idx q k v) (constant S2048x64 .f32 0x00000000#32))
      (broadcastTo S2048x64 (shapeCast S1x64 (mnV v) shapeCasts_S1x64_S1x64) broadcasts_S1x64_S2048x64))
    shapeCasts_S2048x64_S1x1x2048x64

/-- The block the body stores for the first head. -/
theorem att0_eq (idx : Vec F S1x40 .i32) (Q K V : Vec F S1x2048x128 .f32) :
    k0_pay700 (k0_pay697 idx Q K V) (k0_pay698 idx) (k0_pay699 V) = attV idx (headV Q 0) (headV K 0) (headV V 0) := rfl

/-- The block the body stores for the second head. -/
theorem att1_eq (idx : Vec F S1x40 .i32) (Q K V : Vec F S1x2048x128 .f32) :
    k0_pay5 (k0_pay701 (iota .tc S40x2048 32 [1] iota_S40x2048_d1_w32) idx) (k0_pay702 V)
      (k0_pay703 (iota .tc S40x2048 32 [1] iota_S40x2048_d1_w32) idx Q K)
      (k0_pay704 (iota .tc S40x2048 32 [1] iota_S40x2048_d1_w32) idx Q K) = attV idx (headV Q 1) (headV K 1) (headV V 1) := rfl

section
variable (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole)
    (arg6 : Memref sig .tc .vmem S1x2x2048x64 .f32) (harg6 : arg6.IsWhole) (arg7 : Memref sig .tc .vmem S24x2048 .f32) (harg7 : arg7.IsWhole) (arg8 : Memref sig .tc .vmem S24x40 .i32) (harg8 : arg8.IsWhole)
    (h3 : k0_cond3 i = 1#1)
    (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) (f8 : Buf (Elt F) (arg8.view.loc (c : Thread nD τ)))

/-- One head's list of positions as it is loaded. -/
abbrev ldI (h3 : k0_cond3 i = 1#1) (r : Fin 2) : Vec F S1x40 .i32 :=
  arg8.view.readAt (Elt F) (Rect.unit (s := S24x40) (k0_off2 i (BitVec.ofNat 32 r.val)) S1x40.size (k0_off2_inb i h3 r)).toLoadRect f8

/-- The two heads' blocks stored, the newest first. -/
def outPieces : List (View.Piece (Elt F) S1x2x2048x64 .f32) :=
      [⟨Rect.unit (s := S1x2x2048x64) ![0, 1, 0, 0] S1x1x2048x64.size inb_S1x2x2048x64_S1x1x2048x64_0_1_0_0,
          attV (ldI c i arg8 f8 h3 1) (headV (ldQ c arg3 f3) 1) (headV (ldQ c arg4 f4) 1) (headV (ldQ c arg5 f5) 1)⟩,
        ⟨Rect.unit (s := S1x2x2048x64) ![0, 0, 0, 0] S1x1x2048x64.size inb_S1x2x2048x64_S1x1x2048x64_0_0_0_0,
          attV (ldI c i arg8 f8 h3 0) (headV (ldQ c arg3 f3) 0) (headV (ldQ c arg4 f4) 0) (headV (ldQ c arg5 f5) 0)⟩]

/-- The middle point leaves the output block written whole and the list of selections. -/
theorem runB_fst (h1 : ¬ k0_cond1 i = 1#1) (h2 : condTopk i) :
    (runB c i arg3 harg3 arg4 harg4 arg5 harg5 arg6 harg6 arg7 harg7 arg8 harg8 h1 h2 h3 f3 f4 f5 f6 f7 f8).1
    = (arg6.view.writes (Elt F) f6 (outPieces c i arg3 arg4 arg5 arg8 h3 f3 f4 f5 (arg8.view.writes (Elt F) arg8.view.junk (colPieces (ldM c arg7 f7)))),
        arg8.view.writes (Elt F) arg8.view.junk (colPieces (ldM c arg7 f7))) := by
  rw [← cols_eq]
  unfold outPieces
  rw [← att0_eq, ← att1_eq]
  rfl

/-- A later point leaves the output block written whole. -/
theorem runC_fst (h1 : ¬ k0_cond1 i = 1#1) (h2 : ¬ condTopk i) :
    (runC c i arg3 harg3 arg4 harg4 arg5 harg5 arg6 harg6 arg7 harg7 arg8 harg8 h1 h2 h3 f3 f4 f5 f6 f8).1
    = arg6.view.writes (Elt F) f6 (outPieces c i arg3 arg4 arg5 arg8 h3 f3 f4 f5 f8) := by
  unfold runC outPieces
  dsimp only
  rw [← att0_eq, ← att1_eq]
  unfold runC.sl.r runC.sl.r_1 runC.sl.r_2 runC.sl.r_3 runC.sl.r_4 runC.sl.r_5 runC.sl.r_6
  rfl

end

end Cert.KernelIdeal.Body

end
-- ==== Proof.Spec.lean ====
module

public import Idealize.ShloMosaic.PureOps.Ideal
public import Idealize.ShloMosaic.Lib.IdealHost
public import Idealize.ShloMosaic.Lib.SortFacts

@[expose] public section

set_option maxRecDepth 16384

noncomputable section

namespace ProbSparse

open Idealize.ShloMosaic

/-! ### One head's mathematics on the extended reals -/

/-- Query `l` against key `j`. -/
def dots (q k : Fin 2048 → Fin 64 → EReal) (l j : Fin 2048) : EReal := ∑ d, q l d * k j d

/-- The sparsity measure of query `l`: the greatest score less the mean score. -/
def meas (q k : Fin 2048 → Fin 64 → EReal) (l : Fin 2048) : EReal :=
  (Finset.univ.sup fun j => dots q k l j) - (∑ j, dots q k l j) * ((1 / 2048 : ℝ) : EReal)

/-- The scaled score. -/
def sc (q k : Fin 2048 → Fin 64 → EReal) (l j : Fin 2048) : EReal := dots q k l j * ((1 / 8 : ℝ) : EReal)

/-- The exponential of a scaled score less the row's greatest. -/
def ex (q k : Fin 2048 → Fin 64 → EReal) (l j : Fin 2048) : EReal :=
  Ideal.exp (sc q k l j - Finset.univ.sup fun j => sc q k l j)

/-- The attention of query `l`. -/
def upd (q k v : Fin 2048 → Fin 64 → EReal) (l : Fin 2048) (d : Fin 64) : EReal :=
  ∑ j, Ideal.div (ex q k l j) (∑ j', ex q k l j') * v j d

/-- The mean of the values. -/
def mean (v : Fin 2048 → Fin 64 → EReal) (d : Fin 64) : EReal := (∑ j, v j d) * ((1 / 2048 : ℝ) : EReal)

/-! ### Selecting the greatest again and again -/

/-- The greatest entry is attained. -/
theorem attained_nonempty (M : Fin 2048 → EReal) : (Finset.univ.filter fun l => M l = Finset.univ.sup M).Nonempty := by
  obtain ⟨l, -, hl⟩ := Finset.exists_mem_eq_sup Finset.univ ⟨(0 : Fin 2048), Finset.mem_univ _⟩ M
  exact ⟨l, Finset.mem_filter.mpr ⟨Finset.mem_univ _, hl.symm⟩⟩

/-- The least position of the greatest entry. -/
def pick (M : Fin 2048 → EReal) : Fin 2048 := (Finset.univ.filter fun l => M l = Finset.univ.sup M).min' (attained_nonempty M)

/-- The picked entry is the greatest. -/
theorem pick_max (M : Fin 2048 → EReal) : M (pick M) = Finset.univ.sup M :=
  (Finset.mem_filter.mp (Finset.min'_mem _ (attained_nonempty M))).2

/-- The picked position is the least at which the greatest entry is attained. -/
theorem pick_le (M : Fin 2048 → EReal) (l : Fin 2048) (h : M l = Finset.univ.sup M) : pick M ≤ l :=
  Finset.min'_le (Finset.univ.filter fun l => M l = Finset.univ.sup M) l (Finset.mem_filter.mpr ⟨Finset.mem_univ l, h⟩)

/-- The entries after `t` selections, each selected entry having become minus infinity. -/
def cur (M : Fin 2048 → EReal) : ℕ → Fin 2048 → EReal
  | 0 => M
  | t + 1 => fun l => if l = pick (cur M t) then ⊥ else cur M t l

/-- The position selected at step `t`. -/
def sel (M : Fin 2048 → EReal) (t : ℕ) : Fin 2048 := pick (cur M t)

/-- Position `a` comes before position `b` in decreasing order, equal entries in order of position. -/
def Before {n : ℕ} (M : Fin n → EReal) (a b : Fin n) : Prop := M b < M a ∨ (M a = M b ∧ a < b)

/-- How many positions come before `l`. -/
def rank {n : ℕ} (M : Fin n → EReal) (l : Fin n) : ℕ := by
  classical exact (Finset.univ.filter fun a => Before M a l).card

/-- No position comes before itself. -/
theorem Before.irrefl {n : ℕ} {M : Fin n → EReal} {a : Fin n} (h : Before M a a) : False := by
  rcases h with h | ⟨_, h⟩ <;> exact lt_irrefl _ h

/-- Coming before is transitive. -/
theorem Before.trans {n : ℕ} {M : Fin n → EReal} {a b c : Fin n} (h : Before M a b) (h' : Before M b c) : Before M a c := by
  rcases h with h | ⟨e, h⟩ <;> rcases h' with h' | ⟨e', h'⟩
  · exact .inl (h'.trans h)
  · exact .inl (e' ▸ h)
  · exact .inl (e.symm ▸ h')
  · exact .inr ⟨e.trans e', h.trans h'⟩

/-- Of two different positions one comes before the other. -/
theorem Before.total {n : ℕ} {M : Fin n → EReal} (a b : Fin n) : Before M a b ∨ a = b ∨ Before M b a := by
  rcases lt_trichotomy (M a) (M b) with h | h | h
  · exact .inr (.inr (.inl h))
  · rcases lt_trichotomy a b with g | g | g
    · exact .inl (.inr ⟨h, g⟩)
    · exact .inr (.inl g)
    · exact .inr (.inr (.inr ⟨h.symm, g⟩))
  · exact .inl (.inl h)

/-- A position that comes before another has the smaller rank. -/
theorem rank_lt {n : ℕ} {M : Fin n → EReal} {a b : Fin n} (h : Before M a b) : rank M a < rank M b := by
  classical
  refine Finset.card_lt_card (Finset.ssubset_iff_of_subset (fun x hx => ?_) |>.mpr ⟨a, ?_, ?_⟩)
  · exact Finset.mem_filter.mpr ⟨Finset.mem_univ _, (Finset.mem_filter.mp hx).2.trans h⟩
  · exact Finset.mem_filter.mpr ⟨Finset.mem_univ _, h⟩
  · exact fun hx => (Finset.mem_filter.mp hx).2.irrefl

/-- Different positions have different ranks. -/
theorem rank_injective {n : ℕ} (M : Fin n → EReal) : Function.Injective (rank M) := by
  intro a b h
  rcases Before.total (M := M) a b with g | g | g
  · exact absurd h (rank_lt g).ne
  · exact g
  · exact absurd h (rank_lt g).ne'

/-- After `t` selections the positions selected are `t` many, they come before all others, and exactly they are minus
    infinity. -/
theorem cur_spec (M : Fin 2048 → EReal) (hM : ∀ l, M l ≠ ⊥) (t : ℕ) (ht : t ≤ 2048) :
    ∃ S : Finset (Fin 2048), S.card = t ∧ (∀ l, cur M t l = if l ∈ S then ⊥ else M l)
      ∧ ∀ a ∈ S, ∀ b, b ∉ S → Before M a b := by
  classical
  induction t with
  | zero => exact ⟨∅, rfl, fun l => by simp [cur], fun a h => absurd h (Finset.notMem_empty a)⟩
  | succ t ih =>
    obtain ⟨S, hc, hcur, hb⟩ := ih (by omega)
    obtain ⟨l0, hl0⟩ : ∃ l, l ∉ S := by
      by_contra hn
      push Not at hn
      have : S = Finset.univ := Finset.eq_univ_of_forall hn
      rw [this, Finset.card_univ, Fintype.card_fin] at hc
      omega
    have hmax := pick_max (cur M t)
    have hns : pick (cur M t) ∉ S := by
      intro hin
      rw [hcur, if_pos hin] at hmax
      have h1 : cur M t l0 ≤ ⊥ := hmax ▸ Finset.le_sup (Finset.mem_univ l0)
      rw [hcur, if_neg hl0] at h1
      exact hM l0 (le_bot_iff.mp h1)
    have hbest : ∀ b, b ∉ S → b ≠ pick (cur M t) → Before M (pick (cur M t)) b := by
      intro b hbS hne
      have h1 : cur M t b ≤ cur M t (pick (cur M t)) := hmax ▸ Finset.le_sup (Finset.mem_univ b)
      rcases lt_or_eq_of_le h1 with h | h
      · rw [hcur b, hcur (pick _), if_neg hbS, if_neg hns] at h
        exact .inl h
      · have h2 := pick_le (cur M t) b (h.trans hmax)
        rw [hcur b, hcur (pick _), if_neg hbS, if_neg hns] at h
        exact .inr ⟨h.symm, lt_of_le_of_ne h2 hne.symm⟩
    refine ⟨insert (pick (cur M t)) S, by rw [Finset.card_insert_of_notMem hns, hc], fun l => ?_, fun a ha b hbn => ?_⟩
    · show (if l = pick (cur M t) then ⊥ else cur M t l) = _
      by_cases h : l = pick (cur M t)
      · rw [if_pos h, if_pos (Finset.mem_insert.mpr (.inl h))]
      · rw [if_neg h, hcur]
        by_cases g : l ∈ S
        · rw [if_pos g, if_pos (Finset.mem_insert.mpr (.inr g))]
        · rw [if_neg g, if_neg (fun x => (Finset.mem_insert.mp x).elim h g)]
    · rw [Finset.mem_insert, not_or] at hbn
      rcases Finset.mem_insert.mp ha with rfl | ha
      · exact hbest b hbn.2 hbn.1
      · exact hb a ha b hbn.2

/-- When no entry is minus infinity, exactly `t` positions come before the one selected at step `t`. -/
theorem rank_sel (M : Fin 2048 → EReal) (hM : ∀ l, M l ≠ ⊥) (t : ℕ) (ht : t < 2048) : rank M (sel M t) = t := by
  classical
  obtain ⟨S, hc, hcur, hb⟩ := cur_spec M hM t ht.le
  obtain ⟨S', hc', hcur', hb'⟩ := cur_spec M hM (t + 1) ht
  have hS' : S' = insert (sel M t) S := by
    ext l
    have h1 := hcur' l
    have h2 : cur M (t + 1) l = if l = sel M t then ⊥ else cur M t l := rfl
    rw [h2, hcur l] at h1
    rw [Finset.mem_insert]
    by_cases hl : l ∈ S'
    · rw [if_pos hl] at h1
      by_cases g : l = sel M t
      · exact ⟨fun _ => .inl g, fun _ => hl⟩
      · rw [if_neg g] at h1
        by_cases g' : l ∈ S
        · exact ⟨fun _ => .inr g', fun _ => hl⟩
        · rw [if_neg g'] at h1
          exact absurd h1 (hM l)
    · rw [if_neg hl] at h1
      refine ⟨fun x => absurd x hl, fun x => ?_⟩
      rcases x with g | g
      · rw [if_pos g] at h1
        exact absurd h1.symm (hM l)
      · rw [if_pos g, ite_self] at h1
        exact absurd h1.symm (hM l)
  have hns : sel M t ∉ S := fun h => by
    rw [hS', Finset.insert_eq_of_mem h, hc] at hc'
    omega
  have : (Finset.univ.filter fun a => Before M a (sel M t)) = S := by
    ext a
    rw [Finset.mem_filter]
    refine ⟨fun ⟨_, h⟩ => ?_, fun h => ⟨Finset.mem_univ _, hb a h _ hns⟩⟩
    by_contra ha
    have hne : a ≠ sel M t := fun e => (e ▸ h : Before M (sel M t) (sel M t)).irrefl
    have ha' : a ∉ S' := by
      rw [hS', Finset.mem_insert, not_or]
      exact ⟨hne, ha⟩
    exact (h.trans (hb' (sel M t) (hS' ▸ Finset.mem_insert_self _ _) a ha')).irrefl
  unfold rank
  rw [this, hc]

/-- So the first selections are distinct. -/
theorem sel_injective (M : Fin 2048 → EReal) (hM : ∀ l, M l ≠ ⊥) : Function.Injective fun t : Fin 40 => sel M t.val := by
  intro a b h
  have h' : sel M a.val = sel M b.val := h
  have := congrArg (rank M) h'
  rw [rank_sel M hM _ (by omega), rank_sel M hM _ (by omega)] at this
  exact Fin.ext this

/-! ### The stable sort in decreasing order lists the same positions -/

/-- Inserting a position lower than all those of an ordered list keeps the list ordered. -/
theorem insertBefore_pairwise {n : ℕ} (M : Fin n → EReal) (B : Fin n → Fin n → Bool) (hB : ∀ a b, B a b = true ↔ M b < M a)
    (a : Fin n) (l : List (Fin n)) (ha : ∀ b ∈ l, a < b) (hl : l.Pairwise (Before M)) :
    (insertBefore B a l).Pairwise (Before M) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore B a l).mem_iff.mp hc) with rfl | hc'
      · exact .inl ((hB b c).mp h)
      · exact hl.1 c hc'
    · rename_i h
      have h1 : M b ≤ M a := not_lt.mp fun g => h ((hB b a).mpr g)
      have hab : Before M a b := by
        rcases lt_or_eq_of_le h1 with g | g
        · exact .inl g
        · exact .inr ⟨g.symm, ha b List.mem_cons_self⟩
      refine List.pairwise_cons.mpr ⟨fun c hc => ?_, List.pairwise_cons.mpr hl⟩
      rcases List.mem_cons.mp hc with rfl | hc'
      · exact hab
      · exact hab.trans (hl.1 c hc')

/-- The stable sort of an increasing list is ordered by `Before`. -/
theorem stableSort_pairwise {n : ℕ} (M : Fin n → EReal) (B : Fin n → Fin n → Bool) (hB : ∀ a b, B a b = true ↔ M b < M a)
    (l : List (Fin n)) (hl : l.Pairwise (· < ·)) : (stableSort B l).Pairwise (Before M) := by
  induction l with
  | nil => exact List.Pairwise.nil
  | cons a l ih =>
    rw [List.pairwise_cons] at hl
    unfold stableSort
    exact insertBefore_pairwise M B hB a _ (fun b hb => hl.1 b ((perm_stableSort B l).mem_iff.mp hb)) (ih hl.2)

/-- Earlier entries of the sorted order come before later ones. -/
theorem sortedFrom_before {n : ℕ} (M : Fin n → EReal) (B : Fin n → Fin n → Bool) (hB : ∀ a b, B a b = true ↔ M b < M a)
    (s t : Fin n) (h : s < t) : Before M (sortedFrom B s) (sortedFrom B t) := by
  have hp : ∀ a b : Fin (sortPositions n B).length, a < b → Before M ((sortPositions n B).get a) ((sortPositions n B).get b) :=
    List.pairwise_iff_get.mp (stableSort_pairwise M B hB (List.finRange n) (List.pairwise_lt_finRange _))
  unfold sortedFrom
  exact hp _ _ (by simp only [Fin.lt_def, Fin.val_cast]; exact h)

/-- Exactly `t` positions come before the one the stable sort puts at `t`. -/
theorem rank_sortedFrom {n : ℕ} (M : Fin n → EReal) (B : Fin n → Fin n → Bool) (hB : ∀ a b, B a b = true ↔ M b < M a)
    (t : Fin n) : rank M (sortedFrom B t) = t.val := by
  classical
  have : (Finset.univ.filter fun a => Before M a (sortedFrom B t)) = (Finset.univ.filter fun s => s < t).map ⟨sortedFrom B, sortedFrom_injective B⟩ := by
    ext a
    rw [Finset.mem_filter, Finset.mem_map]
    constructor
    · rintro ⟨-, h⟩
      obtain ⟨s, rfl⟩ := sortedFrom_surjective B a
      refine ⟨s, Finset.mem_filter.mpr ⟨Finset.mem_univ _, ?_⟩, rfl⟩
      rcases lt_trichotomy s t with g | g | g
      · exact g
      · exact absurd (g ▸ h) fun x => x.irrefl
      · exact absurd (h.trans (sortedFrom_before M B hB t s g)) fun x => x.irrefl
    · rintro ⟨s, hs, rfl⟩
      exact ⟨Finset.mem_univ _, sortedFrom_before M B hB s t (Finset.mem_filter.mp hs).2⟩
  unfold rank
  rw [this, Finset.card_map]
  have h2 : (Finset.univ.filter fun s => s < t) = Finset.Iio t := by
    ext s
    simp
  rw [h2, Fin.card_Iio]

/-- The stable sort in decreasing order puts at `t` the position selected at step `t`. -/
theorem sortedFrom_eq_sel (M : Fin 2048 → EReal) (hM : ∀ l, M l ≠ ⊥) (B : Fin 2048 → Fin 2048 → Bool)
    (hB : ∀ a b, B a b = true ↔ M b < M a) (t : Fin 2048) : sortedFrom B t = sel M t.val :=
  rank_injective M ((rank_sortedFrom M B hB t).trans (rank_sel M hM t.val t.isLt).symm)

/-! ### The result -/

/-- What the kernel leaves: it counts how often a position was selected, and where the count passes one half it adds the
    updates of that position. -/
def kout (q k v : Fin 2048 → Fin 64 → EReal) (l : Fin 2048) (d : Fin 64) : EReal :=
  if ((1 / 2 : ℝ) : EReal) < ∑ t : Fin 40, (if sel (meas q k) t.val = l then (1 : EReal) else 0) * 1 then
    ∑ t : Fin 40, (if sel (meas q k) t.val = l then (1 : EReal) else 0) * upd q k v (sel (meas q k) t.val) d
  else mean v d

/-- A half is less than one. -/
theorem half_lt_one : ((1 / 2 : ℝ) : EReal) < 1 := by
  rw [← EReal.coe_one, EReal.coe_lt_coe_iff]
  norm_num

/-- A half is not less than zero. -/
theorem not_half_lt_zero : ¬ ((1 / 2 : ℝ) : EReal) < 0 := by
  rw [← EReal.coe_zero, EReal.coe_lt_coe_iff]
  norm_num

/-- A position selected holds its own update. -/
theorem kout_sel (q k v : Fin 2048 → Fin 64 → EReal) (hM : ∀ l, meas q k l ≠ ⊥) (t : Fin 40) (d : Fin 64) :
    kout q k v (sel (meas q k) t.val) d = upd q k v (sel (meas q k) t.val) d := by
  have one : ∀ f : Fin 40 → EReal, (∑ s : Fin 40, (if sel (meas q k) s.val = sel (meas q k) t.val then (1 : EReal) else 0) * f s) = f t := by
    intro f
    rw [Finset.sum_eq_single t]
    · rw [if_pos rfl, one_mul]
    · intro s _ hs
      rw [if_neg (fun h => hs (sel_injective (meas q k) hM h)), zero_mul]
    · intro h
      exact absurd (Finset.mem_univ t) h
  unfold kout
  rw [one (fun _ => 1), one fun s => upd q k v (sel (meas q k) s.val) d, if_pos half_lt_one]

/-- A position never selected holds the mean of the values. -/
theorem kout_rest (q k v : Fin 2048 → Fin 64 → EReal) (l : Fin 2048) (hl : ∀ t : Fin 40, sel (meas q k) t.val ≠ l) (d : Fin 64) :
    kout q k v l d = mean v d := by
  unfold kout
  rw [Finset.sum_eq_zero (fun t _ => by rw [if_neg (hl t), zero_mul]), if_neg not_half_lt_zero]

/-! ### Finite queries and keys -/

/-- A sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Finite queries and keys have finite scores. -/
theorem dots_finite (q k : Fin 2048 → Fin 64 → EReal) (hq : ∀ l d, q l d ≠ ⊤ ∧ q l d ≠ ⊥) (hk : ∀ l d, k l d ≠ ⊤ ∧ k l d ≠ ⊥)
    (l j : Fin 2048) : ∃ r : ℝ, dots q k l j = (r : EReal) := by
  refine ⟨∑ d, (q l d).toReal * (k j d).toReal, ?_⟩
  unfold dots
  rw [coe_sum]
  refine Finset.sum_congr rfl fun d _ => ?_
  rw [EReal.coe_mul, EReal.coe_toReal (hq l d).1 (hq l d).2, EReal.coe_toReal (hk j d).1 (hk j d).2]

/-- With finite queries and keys no measure is minus infinity. -/
theorem meas_ne_bot (q k : Fin 2048 → Fin 64 → EReal) (hq : ∀ l d, q l d ≠ ⊤ ∧ q l d ≠ ⊥) (hk : ∀ l d, k l d ≠ ⊤ ∧ k l d ≠ ⊥)
    (l : Fin 2048) : meas q k l ≠ ⊥ := by
  choose r hr using dots_finite q k hq hk l
  obtain ⟨j, -, hj⟩ := Finset.exists_mem_eq_sup Finset.univ ⟨(0 : Fin 2048), Finset.mem_univ _⟩ fun j => dots q k l j
  unfold meas
  rw [hj, hr, Finset.sum_congr rfl fun j _ => hr j, ← coe_sum, ← EReal.coe_mul, ← EReal.coe_sub]
  exact EReal.coe_ne_bot _

/-! ### The words of the constants -/

/-- The word of 1/2048. -/
theorem word_2048th : Ideal.ofBits .f32 0x3A000000#32 = ((1 / 2048 : ℝ) : EReal) := by
  simp [Ideal.ofBits, Ideal.ieee, -EReal.coe_mul]
  norm_num

/-- The word of 1/2. -/
theorem word_half : Ideal.ofBits .f32 0x3F000000#32 = ((1 / 2 : ℝ) : EReal) := by
  simp [Ideal.ofBits, Ideal.ieee, -EReal.coe_mul]
  norm_num

/-- The word of 1/8. -/
theorem word_eighth : Ideal.ofBits .f32 0x3E000000#32 = ((1 / 8 : ℝ) : EReal) := by
  simp [Ideal.ofBits, Ideal.ieee, -EReal.coe_mul]
  norm_num

/-- The word of 2048. -/
theorem word_2048 : Ideal.ofBits .f32 0x45000000#32 = ((2048 : ℝ) : EReal) := by
  simp [Ideal.ofBits, Ideal.ieee, -EReal.coe_mul]
  norm_num

/-- The word of minus infinity. -/
theorem word_bot : Ideal.ofBits .f32 0xFF800000#32 = ⊥ := by
  simp [Ideal.ofBits, Ideal.ieee]

/-- Dividing by 2048 is multiplying by its reciprocal. -/
theorem div_2048 (x : EReal) : Ideal.div x ((2048 : ℝ) : EReal) = x * ((1 / 2048 : ℝ) : EReal) := by
  unfold Ideal.div
  rw [if_neg (by rw [← EReal.coe_zero, EReal.coe_eq_coe_iff]; norm_num), ← EReal.coe_inv, one_div]

end ProbSparse

end
-- ==== Proof.IdealTopkValue.lean ====
module

public import proofs.«01_k».proof.Proof.IdealAttend
public import Idealize.ShloMosaic.Lib.Pointwise
public import proofs.«01_k».proof.Proof.Spec

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ProbSparse

local notation "F" => Ideal

/-! ### The selection -/

/-- A word below 2048 read as a signed integer. -/
theorem toInt_small (n : ℕ) (h : n ≤ 2048) : (BitVec.ofNat 32 n).toInt = (n : ℤ) := by
  rw [BitVec.toInt_ofNat']
  have : n % 2 ^ 32 = n := Nat.mod_eq_of_lt (by omega)
  rw [Int.bmod_def]
  omega

/-- Words of numbers below 2048 are equal only for equal numbers. -/
theorem ofNat_inj (a b : ℕ) (ha : a < 2048) (hb : b < 2048) : BitVec.ofNat 32 a = BitVec.ofNat 32 b ↔ a = b := by
  refine ⟨fun h => ?_, fun h => by rw [h]⟩
  have := congrArg BitVec.toInt h
  rw [toInt_small a ha.le, toInt_small b hb.le] at this
  exact_mod_cast this

/-- The signed minimum of words is the minimum of their integers. -/
theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The least of the positions attaining a property, the others counting as 2048. -/
theorem fold_minsi_least (P : Fin 2048 → Prop) [DecidablePred P] (l : Fin 2048) (hl : P l) (hmin : ∀ a, P a → l ≤ a) :
    Finset.univ.fold IntOp.minsi 2147483647#32 (fun a : Fin 2048 => if P a then BitVec.ofNat 32 a.val else 2048#32) = BitVec.ofNat 32 l.val := by
  have key : (Finset.univ.fold IntOp.minsi 2147483647#32 (fun a : Fin 2048 => if P a then BitVec.ofNat 32 a.val else 2048#32)).toInt
      = Finset.univ.fold min (2147483647 : ℤ) (fun a : Fin 2048 => if P a then (a.val : ℤ) else 2048) := by
    refine (Finset.fold_hom (op := IntOp.minsi) (op' := min) (m := BitVec.toInt) toInt_minsi).symm.trans ?_
    refine congrArg (fun f => Finset.univ.fold min (2147483647 : ℤ) f) (funext fun a => ?_)
    show (if P a then BitVec.ofNat 32 a.val else 2048#32).toInt = if P a then (a.val : ℤ) else 2048
    split
    · exact toInt_small _ a.isLt.le
    · decide
  apply BitVec.eq_of_toInt_eq
  rw [key, toInt_small _ l.isLt.le]
  refine le_antisymm ((Finset.fold_min_le _).mpr (.inr ⟨l, Finset.mem_univ _, ?_⟩)) ((Finset.le_fold_min _).mpr ⟨?_, fun a _ => ?_⟩)
  · rw [if_pos hl]
  · have := l.isLt
    omega
  · split
    · rename_i h
      exact_mod_cast hmin a h
    · have := l.isLt
      omega

/-- A word chosen by equality of two words. -/
theorem select_eq {α : Type} (x y : BitVec 32) (a b : α) : Scalar.select (IntOp.cmpi .eq x y) a b = if x = y then a else b := by
  by_cases h : x = y
  · subst h
    rw [if_pos rfl]
    simp [Scalar.select, IntOp.cmpi]
  · rw [if_neg h]
    have : (x == y) = false := beq_eq_false_iff_ne.mpr h
    simp only [Scalar.select, IntOp.cmpi, this]
    exact if_neg (by decide)

/-- The running maximum from minus infinity is the supremum. -/
theorem fold_max_sup (f : Fin 2048 → EReal) : Finset.univ.fold max (Ideal.ofBits .f32 0xFF800000#32) f = Finset.univ.sup f := by
  refine le_antisymm ((Finset.fold_max_le _).mpr ⟨?_, fun a h => Finset.le_sup h⟩) (Finset.sup_le fun a h => ?_)
  · rw [word_bot]
    exact bot_le
  · exact ((Finset.fold_max_le _).mp le_rfl).2 a h

/-- The selected column of a row is the least position of the row's greatest entry. -/
theorem selV_apply (m : FVec F S24x2048 .f32) (r : Fin 24) :
    selV m (ix2 r 0) = BitVec.ofNat 32 (pick fun l => m (ix2 r l)).val := by
  simp only [selV, pointwise]
  rw [fold_max_sup]
  refine Eq.trans (congrArg (fun f => Finset.fold IntOp.minsi 2147483647#32 f Finset.univ) (funext fun k => ?_))
    (fold_minsi_least (fun k : Fin 2048 => m (ix2 r k) = Finset.univ.sup fun l => m (ix2 r l)) _
      (pick_max fun l => m (ix2 r l)) fun a ha => pick_le (fun l => m (ix2 r l)) a ha)
  exact if_congr Iff.rfl (congrArg (BitVec.ofNat 32) (by show 0 * 2048 + k.val = k.val; omega)) rfl

/-- After a selection the selected entry is minus infinity and the others are unchanged. -/
theorem nextV_apply (m : FVec F S24x2048 .f32) (r : Fin 24) (l : Fin 2048) :
    nextV m (ix2 r l) = if l = pick (fun l => m (ix2 r l)) then (⊥ : EReal) else m (ix2 r l) := by
  simp only [nextV, pointwise]
  rw [select_eq, word_bot]
  have h : selV m (ix2 r 0) = BitVec.ofNat 32 (pick fun l => m (ix2 r l)).val := selV_apply m r
  exact if_congr (Iff.trans (Eq.congr (congrArg (BitVec.ofNat 32) (by show 0 * 2048 + l.val = l.val; omega)) h)
    ((ofNat_inj l.val (pick fun l => m (ix2 r l)).val l.isLt (Fin.isLt _)).trans Fin.ext_iff.symm)) rfl rfl

/-- The rows after `t` selections are the row's entries after `t` selections. -/
theorem curV_apply (m : FVec F S24x2048 .f32) (r : Fin 24) (t : ℕ) (l : Fin 2048) :
    curV m t (ix2 r l) = cur (fun l => m (ix2 r l)) t l := by
  induction t generalizing l with
  | zero => rfl
  | succ t ih =>
    refine (nextV_apply (curV m t) r l).trans ?_
    rw [funext ih, ih]
    rfl

/-- The column stored at step `t` is the position selected at step `t`. -/
theorem selV_curV (m : FVec F S24x2048 .f32) (r : Fin 24) (t : ℕ) :
    selV (curV m t) (ix2 r 0) = BitVec.ofNat 32 (sel (fun l => m (ix2 r l)) t).val := by
  rw [selV_apply, funext (curV_apply m r t)]
  rfl

end Cert.KernelIdeal.Body

end
-- ==== Proof.IdealAttendValue.lean ====
module

public import proofs.«01_k».proof.Proof.IdealTopkValue

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ProbSparse

local notation "F" => Ideal

/-! ### The attention -/

section
variable (idx : Vec F S1x40 .i32) (Q K V : FVec F S2048x64 .f32) (p : Fin 40 → Fin 2048)
  (hp : ∀ t, idx (ix2 0 t) = BitVec.ofNat 32 (p t).val)

include hp

/-- The 0/1 matrix is 1 exactly where the row's selected position is the column. -/
theorem oneV_apply (t : Fin 40) (l : Fin 2048) : oneV idx (ix2 t l) = if p t = l then (1 : EReal) else 0 := by
  simp only [oneV, pointwise]
  rw [select_eq]
  exact if_congr (Iff.trans (Eq.congr (hp t) (congrArg (BitVec.ofNat 32) (show 0 * 2048 + l.val = l.val by omega)))
    ((ofNat_inj (p t).val l.val (Fin.isLt _) l.isLt).trans Fin.ext_iff.symm)) rfl rfl

/-- Multiplying by the rows of ones picks the selected row. -/
theorem gather_apply (f : Fin 2048 → EReal) (t : Fin 40) : ∑ l, oneV idx (ix2 t l) * f l = f (p t) := by
  rw [Finset.sum_eq_single (p t)]
  · rw [oneV_apply idx p hp, if_pos rfl, one_mul]
  · intro l _ hl
    rw [oneV_apply idx p hp, if_neg hl.symm, zero_mul]
  · intro h
    exact absurd (Finset.mem_univ _) h

/-- The kernel's scaled scores are those of the selected queries. -/
theorem scV_apply (t : Fin 40) (j : Fin 2048) :
    scV idx Q K (ix2 t j) = sc (fun l d => Q (ix2 l d)) (fun l d => K (ix2 l d)) (p t) j := by
  simp only [scV, pointwise]
  rw [word_eighth]
  refine congrArg (· * _) ((zero_add _).trans (Finset.sum_congr rfl fun d _ => congrArg (· * _) ((zero_add _).trans ?_)))
  exact gather_apply idx p hp (fun l => Q (ix2 l d)) t

/-- The kernel's exponentials are those of the selected queries. -/
theorem exV_apply (t : Fin 40) (j : Fin 2048) :
    exV (scV idx Q K) (ix2 t j) = ex (fun l d => Q (ix2 l d)) (fun l d => K (ix2 l d)) (p t) j := by
  simp only [exV, pointwise]
  have h : ∀ j, scV idx Q K (ix2 t j) = sc (fun l d => Q (ix2 l d)) (fun l d => K (ix2 l d)) (p t) j := scV_apply idx Q K p hp t
  unfold ex
  refine congrArg Ideal.exp (congrArg₂ (· - ·) (h j) ?_)
  exact (congrArg (fun f => Finset.fold max (Ideal.ofBits .f32 0xFF800000#32) f Finset.univ) (funext h)).trans (fold_max_sup _)

/-- The kernel's weights: each exponential over the row's sum. -/
theorem nmV_apply (t : Fin 40) (j : Fin 2048) :
    nmV (exV (scV idx Q K)) (ix2 t j) = Ideal.div (ex (fun l d => Q (ix2 l d)) (fun l d => K (ix2 l d)) (p t) j)
      (∑ j', ex (fun l d => Q (ix2 l d)) (fun l d => K (ix2 l d)) (p t) j') := by
  simp only [nmV, pointwise]
  have h : ∀ j, exV (scV idx Q K) (ix2 t j) = ex (fun l d => Q (ix2 l d)) (fun l d => K (ix2 l d)) (p t) j := exV_apply idx Q K p hp t
  exact congrArg₂ Ideal.div (h j) (Finset.sum_congr rfl fun j _ => h j)

/-- The kernel's attention rows are those of the selected queries. -/
theorem upV_apply (t : Fin 40) (d : Fin 64) :
    upV idx Q K V (ix2 t d) = upd (fun l d => Q (ix2 l d)) (fun l d => K (ix2 l d)) (fun l d => V (ix2 l d)) (p t) d := by
  simp only [upV, pointwise]
  exact (zero_add _).trans (Finset.sum_congr rfl fun j _ => congrArg (· * _) (nmV_apply idx Q K p hp t j))

omit hp in
/-- The kernel's mean row is the mean of the values. -/
theorem mnV_apply (d : Fin 64) : mnV V (ix2 0 d) = mean (fun l d => V (ix2 l d)) d := by
  simp only [mnV, pointwise]
  rw [word_2048th]
  rfl

/-- The stored block of one head, when its list holds the selections of the head's measure. -/
theorem attV_apply (hs : ∀ t, p t = sel (meas (fun l d => Q (ix2 l d)) (fun l d => K (ix2 l d))) t.val) (l : Fin 2048) (d : Fin 64) :
    attV idx Q K V (ix4 0 0 l d) = kout (fun l d => Q (ix2 l d)) (fun l d => K (ix2 l d)) (fun l d => V (ix2 l d)) l d := by
  simp only [attV, ctV, pointwise]
  have h1 : ∀ t, oneV idx (ix2 t l) = if sel (meas (fun l d => Q (ix2 l d)) (fun l d => K (ix2 l d))) t.val = l then (1 : EReal) else 0 :=
    fun t => (oneV_apply idx p hp t l).trans (by rw [hs])
  have h2 : (Ideal.ofBits FTy.f32 0x3F000000#32 < 0 + ∑ t, oneV idx (ix2 t l) * 1)
      ↔ ((1 / 2 : ℝ) : EReal) < ∑ t : Fin 40, (if sel (meas (fun l d => Q (ix2 l d)) (fun l d => K (ix2 l d))) t.val = l then (1 : EReal) else 0) * 1 := by
    rw [word_half, zero_add, Finset.sum_congr rfl fun t _ => congrArg (· * (1 : EReal)) (h1 t)]
  have h3 : (0 + ∑ t, oneV idx (ix2 t l) * upV idx Q K V (ix2 t d))
      = ∑ t : Fin 40, (if sel (meas (fun l d => Q (ix2 l d)) (fun l d => K (ix2 l d))) t.val = l then (1 : EReal) else 0)
        * upd (fun l d => Q (ix2 l d)) (fun l d => K (ix2 l d)) (fun l d => V (ix2 l d)) (sel (meas (fun l d => Q (ix2 l d)) (fun l d => K (ix2 l d))) t.val) d := by
    refine (zero_add _).trans (Finset.sum_congr rfl fun t _ => ?_)
    rw [h1, upV_apply idx Q K V p hp, hs]
  unfold kout
  exact if_congr h2 h3 (mnV_apply V d)

end

end Cert.KernelIdeal.Body

end
-- ==== Proof.IdealMeasureValue.lean ====
module

public import proofs.«01_k».proof.Proof.IdealAttend
public import Idealize.ShloMosaic.Lib.Pointwise
public import proofs.«01_k».proof.Proof.Spec

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ProbSparse

local notation "F" => Ideal

/-! ### The measure -/

/-- A score of a chunk: the sum of products of a key with a query. -/
theorem scoreV_apply (q : FVec F S2048x64 .f32) (k : Vec F S1x512x64 .f32) (j : Fin 512) (l : Fin 2048) :
    scoreV q k (ix2 j l) = ∑ d : Fin 64, k (ix3 0 j d) * q (ix2 l d) := by
  simp only [scoreV, pointwise]
  exact zero_add _

/-- A head's entry, read in the block of two heads. -/
theorem headV_apply (x : Vec F S1x2048x128 .f32) (h : Fin 2) (l : Fin 2048) (d : Fin 64) :
    headV x h (ix2 l d) = x (ix3 0 l ⟨64 * h.val + d.val, by omega⟩) := by
  fin_cases h
  · refine (congrFun (headV_zero x) _).trans ?_
    simp only [pointwise]
    refine congrArg x ?_
    congr 1
    · exact Fin.ext (Nat.zero_add _)
  · refine (congrFun (headV_one x) _).trans ?_
    simp only [pointwise]
    refine congrArg x ?_
    congr 1
    · exact Fin.ext (Nat.zero_add _)

/-- An entry of eight rows of a chunk, read in the chunk. -/
theorem slab_apply (s : FVec F S512x2048 .f32) (n : ℕ) (a : Fin 8) (l : Fin 2048) :
    slab s n (ix2 a l) = s (ix2 ⟨8 * (n % 64) + a.val, by omega⟩ l) := by
  simp only [slab, pointwise]
  refine congrArg s ?_
  congr 1
  · exact Fin.ext (Nat.zero_add _)

/-- The listed numbers are those below 64. -/
theorem steps_range : steps = List.range 64 := by decide

/-- The running sum over a chunk adds its 64 slabs. -/
theorem foldAdd_apply (s : FVec F S512x2048 .f32) (x : FVec F S8x2048 .f32) (i : S8x2048.Idx) :
    foldAdd s x i = x i + ∑ n : Fin 64, slab s n.val i := by
  have h : ∀ (L : List ℕ) (x : FVec F S8x2048 .f32), (L.foldl (fun x j => addf x (slab s j)) x) i = x i + (L.map fun j => slab s j i).sum := by
    intro L
    induction L with
    | nil => exact fun x => (add_zero (x i : EReal)).symm
    | cons n L ih =>
      intro x
      rw [List.foldl_cons, ih, List.map_cons, List.sum_cons]
      exact add_assoc (x i : EReal) (slab s n i) _
  unfold foldAdd
  rw [h, steps_range, ← Finset.sum_range fun n => (slab s n i : EReal)]
  rfl

/-- The running maximum over a chunk is at most X exactly when its start and all 64 slabs are. -/
theorem foldMax_le (s : FVec F S512x2048 .f32) (x : FVec F S8x2048 .f32) (i : S8x2048.Idx) (X : EReal) :
    (foldMax s x i : EReal) ≤ X ↔ (x i : EReal) ≤ X ∧ ∀ n : Fin 64, (slab s n.val i : EReal) ≤ X := by
  have h : ∀ (L : List ℕ) (x : FVec F S8x2048 .f32), ((L.foldl (fun x j => maximumf x (slab s j)) x) i : EReal) ≤ X
      ↔ (x i : EReal) ≤ X ∧ ∀ n ∈ L, (slab s n i : EReal) ≤ X := by
    intro L
    induction L with
    | nil => exact fun x => ⟨fun h => ⟨h, fun n hn => absurd hn (List.not_mem_nil)⟩, fun h => h.1⟩
    | cons n L ih =>
      intro x
      rw [List.foldl_cons, ih, List.forall_mem_cons]
      have : ((maximumf x (slab s n)) i : EReal) ≤ X ↔ (x i : EReal) ≤ X ∧ (slab s n i : EReal) ≤ X := max_le_iff
      rw [this, and_assoc]
  unfold foldMax
  rw [h, steps_range]
  refine and_congr_right fun _ => ⟨fun g n => g n.val (List.mem_range.mpr n.isLt), fun g n hn => g ⟨n, List.mem_range.mp hn⟩⟩

/-- A sum over 2048 positions in the order the blocks of scores are read. -/
theorem sum_blocks (f : Fin 4 → Fin 64 → Fin 8 → EReal) (g : Fin 2048 → EReal)
    (h : ∀ c n a, f c n a = g ⟨512 * c.val + 8 * n.val + a.val, by omega⟩) :
    (∑ a, ((((∑ n, f 0 n a) + ∑ n, f 1 n a) + ∑ n, f 2 n a) + ∑ n, f 3 n a)) = ∑ j, g j := by
  have h1 : (∑ j, g j) = ∑ p : Fin 4 × Fin 64 × Fin 8, f p.1 p.2.1 p.2.2 := by
    refine (Fintype.sum_bijective (fun p : Fin 4 × Fin 64 × Fin 8 => (⟨512 * p.1.val + 8 * p.2.1.val + p.2.2.val, by omega⟩ : Fin 2048))
      ⟨?_, ?_⟩ _ _ fun p => h p.1 p.2.1 p.2.2).symm
    · rintro ⟨a, b, c⟩ ⟨a', b', c'⟩ e
      have e' : 512 * a.val + 8 * b.val + c.val = 512 * a'.val + 8 * b'.val + c'.val := congrArg Fin.val e
      refine Prod.ext (Fin.ext ?_) (Prod.ext (Fin.ext ?_) (Fin.ext ?_)) <;> dsimp only <;> omega
    · intro j
      refine ⟨(⟨j.val / 512, by omega⟩, ⟨j.val % 512 / 8, by omega⟩, ⟨j.val % 8, by omega⟩), Fin.ext ?_⟩
      dsimp only
      omega
  rw [h1, Fintype.sum_prod_type]
  simp only [Fintype.sum_prod_type]
  rw [Fin.sum_univ_four]
  rw [Finset.sum_comm (f := fun n a => f 0 n a), Finset.sum_comm (f := fun n a => f 1 n a),
    Finset.sum_comm (f := fun n a => f 2 n a), Finset.sum_comm (f := fun n a => f 3 n a)]
  simp only [Finset.sum_add_distrib]

/-- The stored row is the measure of each query. -/
theorem measV_apply (s : Fin 4 → FVec F S512x2048 .f32) (q k : Fin 2048 → Fin 64 → EReal)
    (hs : ∀ (c : Fin 4) (j : Fin 512) (l : Fin 2048), s c (ix2 j l) = dots q k l ⟨512 * c.val + j.val, by omega⟩) (l : Fin 2048) :
    measV (s 0) (s 1) (s 2) (s 3) (ix2 0 l) = meas q k l := by
  have hslab : ∀ (c : Fin 4) (n : Fin 64) (a : Fin 8),
      (slab (s c) n.val (ix2 a l) : EReal) = dots q k l ⟨512 * c.val + 8 * n.val + a.val, by omega⟩ := by
    intro c n a
    rw [slab_apply, hs]
    congr 1
    refine Fin.ext ?_
    show 512 * c.val + (8 * (n.val % 64) + a.val) = 512 * c.val + 8 * n.val + a.val
    omega
  simp only [measV, pointwise]
  unfold meas
  congr 1
  · refine le_antisymm ((Finset.fold_max_le _).mpr ⟨?_, fun a _ => ?_⟩) (Finset.sup_le fun j _ => ?_)
    · rw [word_bot]
      exact bot_le
    · rw [foldMax_le, foldMax_le, foldMax_le, foldMax_le]
      refine ⟨⟨⟨⟨?_, fun n => ?_⟩, fun n => ?_⟩, fun n => ?_⟩, fun n => ?_⟩
      · exact (le_of_eq word_bot).trans bot_le
      all_goals
        rw [hslab]
        exact Finset.le_sup (f := fun j => dots q k l j) (Finset.mem_univ _)
    · have hle := (Finset.fold_max_le (s := Finset.univ) (b := Ideal.ofBits FTy.f32 0xFF800000#32)
        (f := fun a : Fin 8 => (foldMax (s 3) (foldMax (s 2) (foldMax (s 1) (foldMax (s 0) (broadcast S8x2048 (Ideal.ofBits .f32 0xFF800000#32))))) (ix2 a l) : EReal)) _).mp le_rfl
      have h1 := hle.2 ⟨j.val % 8, by omega⟩ (Finset.mem_univ _)
      have hj := hslab ⟨j.val / 512, by omega⟩ ⟨j.val % 512 / 8, by omega⟩ ⟨j.val % 8, by omega⟩
      have hjj : (⟨512 * (j.val / 512) + 8 * (j.val % 512 / 8) + j.val % 8, by omega⟩ : Fin 2048) = j := Fin.ext (by dsimp only; omega)
      dsimp only at hj
      rw [hjj] at hj
      rw [← hj]
      rw [foldMax_le, foldMax_le, foldMax_le, foldMax_le] at h1
      have hc : ∀ c : Fin 4, c = 0 ∨ c = 1 ∨ c = 2 ∨ c = 3 := by decide
      rcases hc ⟨j.val / 512, by omega⟩ with e | e | e | e <;> rw [e]
      · exact h1.1.1.1.2 ⟨j.val % 512 / 8, by omega⟩
      · exact h1.1.1.2 ⟨j.val % 512 / 8, by omega⟩
      · exact h1.1.2 ⟨j.val % 512 / 8, by omega⟩
      · exact h1.2 ⟨j.val % 512 / 8, by omega⟩
  · rw [word_2048th]
    congr 1
    refine Eq.trans (Finset.sum_congr rfl fun a _ => ?_) (sum_blocks (fun c n a => slab (s c) n.val (ix2 a l)) (dots q k l) fun c n a => hslab c n a)
    rw [foldAdd_apply, foldAdd_apply, foldAdd_apply, foldAdd_apply]
    congr 3
    refine Eq.trans ?_ (zero_add _)
    congr 1

end Cert.KernelIdeal.Body

end
-- ==== Proof.IdealBlocks.lean ====
module

public import proofs.«01_k».proof.Proof.IdealAttendValue
public import proofs.«01_k».proof.Proof.IdealMeasureValue
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ProbSparse

local notation "F" => Ideal

/-- Row `r` counts the heads of all batches; one head's matrix of an argument. -/
def rowOf (A : S2x2048x12x64.Idx → EReal) (r : Fin 24) : Fin 2048 → Fin 64 → EReal :=
  fun l d => A (ix4 ⟨r.val / 12, by omega⟩ l ⟨r.val % 12, by omega⟩ d)

/-- The two rows the grid point `t` works on. -/
def rowAt (t : Fin cfg0.N) (x : Fin 2) : Fin 24 := ⟨2 * (t.val % 12) + x.val, by omega⟩

/-- Which query block a step reads. -/
theorem idx0 : ∀ t : Fin cfg0.N, win0_0.index t = ![t.val / 6 % 2, 0, t.val % 6] := (by decide +kernel : ∀ t : Fin grid0.N, _)
/-- Which key block a step reads. -/
theorem idx1 : ∀ t : Fin cfg0.N, win0_1.index t = ![t.val / 6 % 2, 0, t.val % 6] := (by decide +kernel : ∀ t : Fin grid0.N, _)
/-- Which value block a step of the second phase reads. -/
theorem idx2 : ∀ t : Fin cfg0.N, 12 ≤ t.val → win0_2.index t = ![t.val / 6 % 2, 0, t.val % 6] := (by decide +kernel : ∀ t : Fin grid0.N, _)
/-- Which result block a step of the second phase writes. -/
theorem idx3 : ∀ t : Fin cfg0.N, 12 ≤ t.val → win0_3.index t = ![t.val / 6 % 2, t.val % 6, 0, 0] := (by decide +kernel : ∀ t : Fin grid0.N, _)

variable (m : (ℓ : Loc nD τ sig) → Buf (Elt F) ℓ) (c : Dev nD)

/-- An entry of the block of window 0 is an entry of its argument. -/
theorem iblk0_apply (t : Fin cfg0.N) (x : Fin 2) (l : Fin 2048) (d : Fin 64) :
    (iblk m c 0 t : S1x2048x128.Idx → EReal) (ix3 0 l ⟨64 * x.val + d.val, by omega⟩)
      = rowOf (m ((c.tc : Thread nD τ).loc main_arg0)) (rowAt t x) l d := by
  have e := idx0 t
  unfold rowOf rowAt
  blk_simp [iblk, V, e]
  entry_read
  pointwise
  blk_ext [e]

/-- An entry of the block of window 1 is an entry of its argument. -/
theorem iblk1_apply (t : Fin cfg0.N) (x : Fin 2) (l : Fin 2048) (d : Fin 64) :
    (iblk m c 1 t : S1x2048x128.Idx → EReal) (ix3 0 l ⟨64 * x.val + d.val, by omega⟩)
      = rowOf (m ((c.tc : Thread nD τ).loc main_arg1)) (rowAt t x) l d := by
  have e := idx1 t
  unfold rowOf rowAt
  blk_simp [iblk, V, e]
  entry_read
  pointwise
  blk_ext [e]

/-- An entry of the block of window 2 is an entry of its argument. -/
theorem iblk2_apply (t : Fin cfg0.N) (ht : 12 ≤ t.val) (x : Fin 2) (l : Fin 2048) (d : Fin 64) :
    (iblk m c 2 t : S1x2048x128.Idx → EReal) (ix3 0 l ⟨64 * x.val + d.val, by omega⟩)
      = rowOf (m ((c.tc : Thread nD τ).loc main_arg2)) (rowAt t x) l d := by
  have e := idx2 t ht
  unfold rowOf rowAt
  blk_simp [iblk, V, e]
  entry_read
  pointwise
  blk_ext [e]

end Cert.KernelIdeal.Body

end
-- ==== Proof.IdealStep.lean ====
module

public import proofs.«01_k».proof.Proof.IdealBlocks
public import Idealize.ShloMosaic.Lib.WholeRead
public import Idealize.ShloMosaic.Lib.WritesUnit
public import Idealize.ShloMosaic.Lib.Writes

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ProbSparse

local notation "F" => Ideal

section
variable (c : Dev nD) (arg3 : Memref sig .tc .vmem S1x2048x128 .f32) (harg3 : arg3.IsWhole) (arg4 : Memref sig .tc .vmem S1x2048x128 .f32) (harg4 : arg4.IsWhole)
    (X Y : S1x2048x128.Idx → Elt F .f32)

/-- The whole block loaded is the block. -/
theorem ldQ_eq : ldQ c arg3 (harg3.unread X) = X := by
  funext x
  refine (harg3.readAt_unread X (Rect.unit (s := S1x2048x128) ![0, 0, 0] S1x2048x128.size inb_S1x2048x128_S1x2048x128_0_0_0).toLoadRect x).trans (congrArg X (funext fun a => Fin.ext ?_))
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A part of a block loaded at offsets `o`. -/
theorem ldK_apply (o : Fin 3 → ℕ) (ho : ∀ a, o a + S1x512x64.size a ≤ S1x2048x128.size a) (x : Fin 1) (j : Fin 512) (d : Fin 64) :
    ldK c arg4 (harg4.unread Y) o ho (ix3 x j d) = Y (ix3 ⟨o 0 + x.val, (Nat.add_lt_add_left x.isLt _).trans_le (ho 0)⟩
      ⟨o 1 + j.val, (Nat.add_lt_add_left j.isLt _).trans_le (ho 1)⟩ ⟨o 2 + d.val, (Nat.add_lt_add_left d.isLt _).trans_le (ho 2)⟩) := by
  refine (harg4.readAt_unread Y (Rect.unit (s := S1x2048x128) o S1x512x64.size ho).toLoadRect (ix3 x j d : S1x512x64.Idx)).trans (congrArg Y (funext fun a => Fin.ext ?_))
  match a with
  | ⟨0, _⟩ => show o 0 + 1 * x.val = o 0 + x.val; omega
  | ⟨1, _⟩ => show o 1 + 1 * j.val = o 1 + j.val; omega
  | ⟨2, _⟩ => show o 2 + 1 * d.val = o 2 + d.val; omega

/-- The row stored for head 0 of a block is that head's measure. -/
theorem row0_apply (l : Fin 2048) : row0 c arg3 arg4 (harg3.unread X) (harg4.unread Y) (ix2 0 l)
    = meas (fun l d => X (ix3 0 l ⟨64 * (0 : Fin 2).val + d.val, by omega⟩)) (fun l d => Y (ix3 0 l ⟨64 * (0 : Fin 2).val + d.val, by omega⟩)) l := by
  refine measV_apply ![scoreV (headV (ldQ c arg3 (harg3.unread X)) 0) (ldK c arg4 (harg4.unread Y) ![0, 0, 0] inb_S1x2048x128_S1x512x64_0_0_0),
    scoreV (headV (ldQ c arg3 (harg3.unread X)) 0) (ldK c arg4 (harg4.unread Y) ![0, 512, 0] inb_S1x2048x128_S1x512x64_0_512_0),
    scoreV (headV (ldQ c arg3 (harg3.unread X)) 0) (ldK c arg4 (harg4.unread Y) ![0, 1024, 0] inb_S1x2048x128_S1x512x64_0_1024_0),
    scoreV (headV (ldQ c arg3 (harg3.unread X)) 0) (ldK c arg4 (harg4.unread Y) ![0, 1536, 0] inb_S1x2048x128_S1x512x64_0_1536_0)] _ _ (fun ck j l => ?_) l
  unfold dots
  fin_cases ck
  · refine (scoreV_apply _ _ j l).trans (Finset.sum_congr rfl fun d _ => ?_)
    rw [headV_apply, ldQ_eq, mul_comm]
    refine congrArg₂ (· * ·) rfl ((ldK_apply c arg4 harg4 Y _ _ _ j d).trans (congrArg Y ?_))
    funext a
    match a with
    | ⟨0, _⟩ => rfl
    | ⟨1, _⟩ => rfl
    | ⟨2, _⟩ => rfl
  · refine (scoreV_apply _ _ j l).trans (Finset.sum_congr rfl fun d _ => ?_)
    rw [headV_apply, ldQ_eq, mul_comm]
    refine congrArg₂ (· * ·) rfl ((ldK_apply c arg4 harg4 Y _ _ _ j d).trans (congrArg Y ?_))
    funext a
    match a with
    | ⟨0, _⟩ => rfl
    | ⟨1, _⟩ => rfl
    | ⟨2, _⟩ => rfl
  · refine (scoreV_apply _ _ j l).trans (Finset.sum_congr rfl fun d _ => ?_)
    rw [headV_apply, ldQ_eq, mul_comm]
    refine congrArg₂ (· * ·) rfl ((ldK_apply c arg4 harg4 Y _ _ _ j d).trans (congrArg Y ?_))
    funext a
    match a with
    | ⟨0, _⟩ => rfl
    | ⟨1, _⟩ => rfl
    | ⟨2, _⟩ => rfl
  · refine (scoreV_apply _ _ j l).trans (Finset.sum_congr rfl fun d _ => ?_)
    rw [headV_apply, ldQ_eq, mul_comm]
    refine congrArg₂ (· * ·) rfl ((ldK_apply c arg4 harg4 Y _ _ _ j d).trans (congrArg Y ?_))
    funext a
    match a with
    | ⟨0, _⟩ => rfl
    | ⟨1, _⟩ => rfl
    | ⟨2, _⟩ => rfl

/-- The row stored for head 1 of a block is that head's measure. -/
theorem row1_apply (l : Fin 2048) : row1 c arg3 arg4 (harg3.unread X) (harg4.unread Y) (ix2 0 l)
    = meas (fun l d => X (ix3 0 l ⟨64 * (1 : Fin 2).val + d.val, by omega⟩)) (fun l d => Y (ix3 0 l ⟨64 * (1 : Fin 2).val + d.val, by omega⟩)) l := by
  refine measV_apply ![scoreV (headV (ldQ c arg3 (harg3.unread X)) 1) (ldK c arg4 (harg4.unread Y) ![0, 0, 64] inb_S1x2048x128_S1x512x64_0_0_64),
    scoreV (headV (ldQ c arg3 (harg3.unread X)) 1) (ldK c arg4 (harg4.unread Y) ![0, 512, 64] inb_S1x2048x128_S1x512x64_0_512_64),
    scoreV (headV (ldQ c arg3 (harg3.unread X)) 1) (ldK c arg4 (harg4.unread Y) ![0, 1024, 64] inb_S1x2048x128_S1x512x64_0_1024_64),
    scoreV (headV (ldQ c arg3 (harg3.unread X)) 1) (ldK c arg4 (harg4.unread Y) ![0, 1536, 64] inb_S1x2048x128_S1x512x64_0_1536_64)] _ _ (fun ck j l => ?_) l
  unfold dots
  fin_cases ck
  · refine (scoreV_apply _ _ j l).trans (Finset.sum_congr rfl fun d _ => ?_)
    rw [headV_apply, ldQ_eq, mul_comm]
    refine congrArg₂ (· * ·) rfl ((ldK_apply c arg4 harg4 Y _ _ _ j d).trans (congrArg Y ?_))
    funext a
    match a with
    | ⟨0, _⟩ => rfl
    | ⟨1, _⟩ => rfl
    | ⟨2, _⟩ => rfl
  · refine (scoreV_apply _ _ j l).trans (Finset.sum_congr rfl fun d _ => ?_)
    rw [headV_apply, ldQ_eq, mul_comm]
    refine congrArg₂ (· * ·) rfl ((ldK_apply c arg4 harg4 Y _ _ _ j d).trans (congrArg Y ?_))
    funext a
    match a with
    | ⟨0, _⟩ => rfl
    | ⟨1, _⟩ => rfl
    | ⟨2, _⟩ => rfl
  · refine (scoreV_apply _ _ j l).trans (Finset.sum_congr rfl fun d _ => ?_)
    rw [headV_apply, ldQ_eq, mul_comm]
    refine congrArg₂ (· * ·) rfl ((ldK_apply c arg4 harg4 Y _ _ _ j d).trans (congrArg Y ?_))
    funext a
    match a with
    | ⟨0, _⟩ => rfl
    | ⟨1, _⟩ => rfl
    | ⟨2, _⟩ => rfl
  · refine (scoreV_apply _ _ j l).trans (Finset.sum_congr rfl fun d _ => ?_)
    rw [headV_apply, ldQ_eq, mul_comm]
    refine congrArg₂ (· * ·) rfl ((ldK_apply c arg4 harg4 Y _ _ _ j d).trans (congrArg Y ?_))
    funext a
    match a with
    | ⟨0, _⟩ => rfl
    | ⟨1, _⟩ => rfl
    | ⟨2, _⟩ => rfl

end

/-- The rows the body stores at point `t` start at the first of the point's two rows. -/
theorem off1_eq : ∀ (t : Fin cfg0.N) (x : Fin 2), k0_off1 (grid0.coords t) (BitVec.ofNat 32 x.val) = ![2 * (t.val % 12) + x.val, 0] :=
  (by decide +kernel : ∀ (t : Fin grid0.N) (x : Fin 2), _)
/-- Which scratch row of positions a step reads for each of its two heads. -/
theorem off2_eq : ∀ (t : Fin cfg0.N) (x : Fin 2), k0_off2 (grid0.coords t) (BitVec.ofNat 32 x.val) = ![2 * (t.val % 12) + x.val, 0] :=
  (by decide +kernel : ∀ (t : Fin grid0.N) (x : Fin 2), _)

variable (m : (ℓ : Loc nD τ sig) → Buf (Elt F) ℓ) (c : Dev nD)

/-- The arguments of one head: queries, keys, values. -/
abbrev qR (r : Fin 24) : Fin 2048 → Fin 64 → EReal := rowOf (m ((c.tc : Thread nD τ).loc main_arg0)) r
abbrev kR (r : Fin 24) : Fin 2048 → Fin 64 → EReal := rowOf (m ((c.tc : Thread nD τ).loc main_arg1)) r
abbrev vR (r : Fin 24) : Fin 2048 → Fin 64 → EReal := rowOf (m ((c.tc : Thread nD τ).loc main_arg2)) r

/-- What the first scratch buffer holds before point `n`: the measures of the heads seen so far. -/
def Inv7 (n : ℕ) (f7 : Buf (Elt F) (scr0.view.loc (c : Thread nD τ))) : Prop :=
  ∀ (r : Fin 24) (l : Fin 2048), r.val < 2 * n → scr0.view.read (Elt F) f7 (ix2 r l) = meas (qR m c r) (kR m c r) l

/-- What the second scratch buffer holds once the selection has run: the positions selected in each row. -/
def Inv8 (f8 : Buf (Elt F) (scr1.view.loc (c : Thread nD τ))) : Prop :=
  ∀ (r : Fin 24) (s : Fin 40), scr1.view.read (Elt F) f8 (ix2 r s) = BitVec.ofNat 32 (sel (meas (qR m c r) (kR m c r)) s.val).val

/-- Two adjacent rows stored are read back, and every other row is what it was. -/
theorem rows_read (f7 : Buf (Elt F) (scr0.view.loc (c : Thread nD τ))) (o1 o0 : Fin 2 → ℕ) (o : ℕ) (h1 : ∀ a, o1 a + S1x2048.size a ≤ S24x2048.size a)
    (h0 : ∀ a, o0 a + S1x2048.size a ≤ S24x2048.size a) (e1 : o1 = ![o + 1, 0]) (e0 : o0 = ![o, 0]) (w1 w0 : S1x2048.Idx → Elt F .f32) (r : Fin 24) (l : Fin 2048) :
    scr0.view.read (Elt F) (scr0.view.writes (Elt F) f7 [⟨Rect.unit (s := S24x2048) o1 S1x2048.size h1, w1⟩, ⟨Rect.unit (s := S24x2048) o0 S1x2048.size h0, w0⟩]) (ix2 r l)
      = if r.val = o + 1 then w1 (ix2 0 l) else if r.val = o then w0 (ix2 0 l) else scr0.view.read (Elt F) f7 (ix2 r l) := by
  split
  next h => exact View.read_writes_cons_rows_of_mem scr0.view f7 h1 w1 _ (ix2 r l) (ix2 (0 : Fin 1) l : S1x2048.Idx) e1 h rfl
  next h =>
    refine (View.read_writes_cons_rows_of_not_mem (W := 1) scr0.view f7 h1 w1 _ (ix2 r l) e1 rfl ?_).trans ?_
    · show r.val < o + 1 ∨ o + 1 + 1 ≤ r.val
      omega
    split
    next h' => exact View.read_writes_cons_rows_of_mem scr0.view f7 h0 w0 [] (ix2 r l) (ix2 (0 : Fin 1) l : S1x2048.Idx) e0 h' rfl
    next h' =>
      refine (View.read_writes_cons_rows_of_not_mem (W := 1) scr0.view f7 h0 w0 [] (ix2 r l) e0 rfl ?_)
      show r.val < o ∨ o + 1 ≤ r.val
      omega

/-- A measuring point adds its two rows. -/
theorem Inv7_step (t : Fin cfg0.N) (ht : t.val < 12) (f7 : Buf (Elt F) (scr0.view.loc (c : Thread nD τ))) (h : Inv7 m c t.val f7)
    (h1 : k0_cond1 (grid0.coords t) = 1#1) :
    Inv7 m c (t.val + 1) (scr0.view.writes (Elt F) f7
      [⟨Rect.unit (s := S24x2048) (k0_off1 (grid0.coords t) 1#32) S1x2048.size (k0_off1_inb (grid0.coords t) h1 1),
          row1 c (mem0 t) (mem1 t) ((whole0 t).unread (iblk m c 0 t)) ((whole1 t).unread (iblk m c 1 t))⟩,
        ⟨Rect.unit (s := S24x2048) (k0_off1 (grid0.coords t) 0#32) S1x2048.size (k0_off1_inb (grid0.coords t) h1 0),
          row0 c (mem0 t) (mem1 t) ((whole0 t).unread (iblk m c 0 t)) ((whole1 t).unread (iblk m c 1 t))⟩]) := by
  intro r l hr
  have hq : ∀ x : Fin 2, (fun l d => (iblk m c 0 t : S1x2048x128.Idx → EReal) (ix3 0 l ⟨64 * x.val + d.val, by omega⟩)) = qR m c (rowAt t x) :=
    fun x => funext fun l => funext fun d => iblk0_apply m c t x l d
  have hk : ∀ x : Fin 2, (fun l d => (iblk m c 1 t : S1x2048x128.Idx → EReal) (ix3 0 l ⟨64 * x.val + d.val, by omega⟩)) = kR m c (rowAt t x) :=
    fun x => funext fun l => funext fun d => iblk1_apply m c t x l d
  have hm : t.val % 12 = t.val := Nat.mod_eq_of_lt ht
  refine (rows_read c f7 _ _ (2 * (t.val % 12)) _ _ (off1_eq t 1) (off1_eq t 0) _ _ r l).trans ?_
  rw [row1_apply, row0_apply, hq 1, hk 1, hq 0, hk 0]
  split
  next e =>
    have : rowAt t 1 = r := Fin.ext (by show 2 * (t.val % 12) + 1 = r.val; omega)
    rw [this]
  next e =>
    split
    next e' =>
      have : rowAt t 0 = r := Fin.ext (by show 2 * (t.val % 12) + 0 = r.val; omega)
      rw [this]
    next e' => exact h r l (by omega)

/-- A stored column's payload at a row. -/
theorem piece_val (w : IVec S24x1 32) (t : ℕ) (a : Fin 24) : (⟨Rect.unit (s := S24x40) ![0, t % 40] S24x1.size (slices_col t), shapeCast S24x1 w shapeCasts_S24x1_S24x1⟩ : View.Piece (Elt F) S24x40 .i32).2 (ix2 a (0 : Fin 1) : S24x1.Idx) = w (ix2 a (0 : Fin 1)) :=
  congrFun (shapeCast_self w shapeCasts_S24x1_S24x1) _

/-- A stored column holds the selection. -/
theorem colPiece_val (M : FVec F S24x2048 .f32) (t : ℕ) (a : Fin 24) : (colPiece M t).2 (ix2 a (0 : Fin 1) : S24x1.Idx) = selV (curV M t) (ix2 a (0 : Fin 1)) :=
  piece_val (selV (curV M t)) t a

/-- The forty columns stored list the selections of every row. -/
theorem Inv8_step (f7 : Buf (Elt F) (scr0.view.loc (c : Thread nD τ))) (f8 : Buf (Elt F) (scr1.view.loc (c : Thread nD τ))) (h : Inv7 m c 12 f7) :
    Inv8 m c (scr1.view.writes (Elt F) f8 (colPieces (ldM c scr0 f7))) := by
  intro r s
  have hlist : colPieces (ldM c scr0 f7) = (List.range 40).reverse.map (colPiece (ldM c scr0 f7)) := rfl
  have hM : ∀ r : Fin 24, (fun l => ldM c scr0 f7 (ix2 r l)) = meas (qR m c r) (kR m c r) := by
    intro r
    funext l
    refine Eq.trans (congrArg (scr0.view.read (Elt F) f7) (funext fun a => Fin.ext ?_)) (h r l (by omega))
    match a with
    | ⟨0, _⟩ => show 0 + 1 * r.val = r.val; omega
    | ⟨1, _⟩ => show 0 + 1 * l.val = l.val; omega
  refine View.read_writes_apply_of_pieces scr1.view f8
    (fun y : S24x40.Idx => BitVec.ofNat 32 (sel (meas (qR m c (y 0)) (kR m c (y 0))) (y 1).val).val) _ ?_ (ix2 r s) ?_
  · intro p hp
    rw [hlist] at hp
    obtain ⟨t, ht, rfl⟩ := List.mem_map.mp hp
    have ht' : t < 40 := List.mem_range.mp (List.mem_reverse.mp ht)
    intro x
    obtain ⟨a, b, rfl⟩ : ∃ (a : Fin 24) (b : Fin 1), x = ix2 a b := ⟨x 0, x 1, eq_ix2 x⟩
    have hb : b = 0 := Fin.ext (by omega)
    subst hb
    refine (colPiece_val (ldM c scr0 f7) t a).trans ?_
    · rw [selV_curV, hM]
      have e0 : (colPiece (ldM c scr0 f7) t).1.emb (ix2 a (0 : Fin 1) : S24x1.Idx) 0 = a := Fin.ext (by show 0 + 1 * a.val = a.val; omega)
      have e1 : ((colPiece (ldM c scr0 f7) t).1.emb (ix2 a (0 : Fin 1) : S24x1.Idx) 1).val = t := by show t % 40 + 1 * 0 = t; omega
      dsimp only
      rw [e0, e1]
  · refine ⟨colPiece (ldM c scr0 f7) s.val, ?_, ?_⟩
    · rw [hlist]
      exact List.mem_map.mpr ⟨s.val, List.mem_reverse.mpr (List.mem_range.mpr s.isLt), rfl⟩
    · rw [show (ix2 r s : S24x40.Idx) = (colPiece (ldM c scr0 f7) s.val).1.emb (ix2 r (0 : Fin 1) : S24x1.Idx) from funext fun a => Fin.ext (by
        match a with
        | ⟨0, _⟩ => show r.val = 0 + 1 * r.val; omega
        | ⟨1, _⟩ => show s.val = s.val % 40 + 1 * 0; omega)]
      rw [← Rect.map_emb_univ]
      exact Finset.mem_map_of_mem _ (Finset.mem_univ _)

/-- The block of the output the point `t` leaves. -/
def outB (t : Fin cfg0.N) : S1x2x2048x64.Idx → EReal := fun y =>
  kout (qR m c (rowAt t (y 1))) (kR m c (rowAt t (y 1))) (vR m c (rowAt t (y 1))) (y 2) (y 3)

/-- An attending point leaves its block. -/
theorem out_step (t : Fin cfg0.N) (ht : 12 ≤ t.val) (h3 : k0_cond3 (grid0.coords t) = 1#1) (f6 : Buf (Elt F) ((mem3 t).view.loc (c : Thread nD τ)))
    (f8 : Buf (Elt F) (scr1.view.loc (c : Thread nD τ))) (h : Inv8 m c f8) :
    (mem3 t).view.read (Elt F) ((mem3 t).view.writes (Elt F) f6 (outPieces c (grid0.coords t) (mem0 t) (mem1 t) (mem2 t) scr1 h3
      ((whole0 t).unread (iblk m c 0 t)) ((whole1 t).unread (iblk m c 1 t)) ((whole2 t).unread (iblk m c 2 t)) f8)) = outB m c t := by
  have hq : ∀ x : Fin 2, (fun l d => headV (iblk m c 0 t : S1x2048x128.Idx → EReal) x (ix2 l d)) = qR m c (rowAt t x) :=
    fun x => funext fun l => funext fun d => (headV_apply _ x l d).trans (iblk0_apply m c t x l d)
  have hk : ∀ x : Fin 2, (fun l d => headV (iblk m c 1 t : S1x2048x128.Idx → EReal) x (ix2 l d)) = kR m c (rowAt t x) :=
    fun x => funext fun l => funext fun d => (headV_apply _ x l d).trans (iblk1_apply m c t x l d)
  have hv : ∀ x : Fin 2, (fun l d => headV (iblk m c 2 t : S1x2048x128.Idx → EReal) x (ix2 l d)) = vR m c (rowAt t x) :=
    fun x => funext fun l => funext fun d => (headV_apply _ x l d).trans (iblk2_apply m c t ht x l d)
  have hi : ∀ (x : Fin 2) (s : Fin 40), ldI c (grid0.coords t) scr1 f8 h3 x (ix2 0 s)
      = BitVec.ofNat 32 (sel (meas (qR m c (rowAt t x)) (kR m c (rowAt t x))) s.val).val := by
    intro x s
    refine Eq.trans (congrArg (scr1.view.read (Elt F) f8) (funext fun a => Fin.ext ?_)) (h (rowAt t x) s)
    have e := off2_eq t x
    match a with
    | ⟨0, _⟩ => show k0_off2 (grid0.coords t) (BitVec.ofNat 32 x.val) 0 + 1 * 0 = 2 * (t.val % 12) + x.val; rw [e]; rfl
    | ⟨1, _⟩ => show k0_off2 (grid0.coords t) (BitVec.ofNat 32 x.val) 1 + 1 * s.val = s.val; rw [e]; show 0 + 1 * s.val = s.val; omega
  have hat : ∀ (x : Fin 2) (l : Fin 2048) (d : Fin 64),
      attV (ldI c (grid0.coords t) scr1 f8 h3 x) (headV (ldQ c (mem0 t) ((whole0 t).unread (iblk m c 0 t))) x)
        (headV (ldQ c (mem1 t) ((whole1 t).unread (iblk m c 1 t))) x) (headV (ldQ c (mem2 t) ((whole2 t).unread (iblk m c 2 t))) x) (ix4 0 0 l d)
      = kout (qR m c (rowAt t x)) (kR m c (rowAt t x)) (vR m c (rowAt t x)) l d := by
    intro x l d
    rw [ldQ_eq, ldQ_eq, ldQ_eq]
    refine (attV_apply _ _ _ _ (fun s => sel (meas (qR m c (rowAt t x)) (kR m c (rowAt t x))) s.val) (hi x) ?_ l d).trans ?_
    · intro s
      rw [hq, hk]
    · rw [hq, hk, hv]
  have piece : ∀ (w : Fin 2) (x : S1x1x2048x64.Idx) (inb : ∀ a, (![0, w.val, 0, 0] : Fin 4 → ℕ) a + S1x1x2048x64.size a ≤ S1x2x2048x64.size a),
      attV (ldI c (grid0.coords t) scr1 f8 h3 w) (headV (ldQ c (mem0 t) ((whole0 t).unread (iblk m c 0 t))) w)
        (headV (ldQ c (mem1 t) ((whole1 t).unread (iblk m c 1 t))) w) (headV (ldQ c (mem2 t) ((whole2 t).unread (iblk m c 2 t))) w) x
      = outB m c t ((Rect.unit (s := S1x2x2048x64) ![0, w.val, 0, 0] S1x1x2048x64.size inb).emb x) := by
    intro w x inb
    have ex : x = ix4 0 0 (x 2) (x 3) := by
      refine (eq_ix4 x).trans (congrArg₂ (fun a b => ix4 a b (x 2) (x 3)) (Fin.ext ?_) (Fin.ext ?_))
      · have : (x 0).val < 1 := (x 0).isLt
        show (x 0).val = 0
        omega
      · have : (x 1).val < 1 := (x 1).isLt
        show (x 1).val = 0
        omega
    have e : (Rect.unit (s := S1x2x2048x64) ![0, w.val, 0, 0] S1x1x2048x64.size inb).emb x = ix4 0 w (x 2) (x 3) := by
      funext a
      apply Fin.ext
      match a with
      | ⟨0, _⟩ => have : (x 0).val < 1 := (x 0).isLt; show 0 + 1 * (x 0).val = 0; omega
      | ⟨1, _⟩ => have : (x 1).val < 1 := (x 1).isLt; show w.val + 1 * (x 1).val = w.val; omega
      | ⟨2, _⟩ => show 0 + 1 * (x 2).val = (x 2).val; omega
      | ⟨3, _⟩ => show 0 + 1 * (x 3).val = (x 3).val; omega
    rw [e, ex]
    exact hat w (x 2) (x 3)
  funext y
  refine View.read_writes_apply_of_pieces (mem3 t).view f6 (outB m c t) _ ?_ y ?_
  · intro p hp x
    unfold outPieces at hp
    rcases List.mem_cons.mp hp with rfl | hp
    · exact piece 1 x inb_S1x2x2048x64_S1x1x2048x64_0_1_0_0
    · rcases List.mem_cons.mp hp with rfl | hp
      · exact piece 0 x inb_S1x2x2048x64_S1x1x2048x64_0_0_0_0
      · exact absurd hp List.not_mem_nil
  · unfold outPieces
    rcases Nat.lt_or_ge (y 1).val 1 with h0 | h0
    · refine ⟨_, List.mem_cons_of_mem _ List.mem_cons_self, (Rect.mem_set_unit (s := S1x2x2048x64) (inb := inb_S1x2x2048x64_S1x1x2048x64_0_0_0_0)).mpr fun a => ?_⟩
      match a with
      | ⟨0, _⟩ => exact ⟨Nat.zero_le _, (y 0).isLt⟩
      | ⟨1, _⟩ => exact ⟨Nat.zero_le _, h0⟩
      | ⟨2, _⟩ => exact ⟨Nat.zero_le _, (y 2).isLt.trans_eq (Nat.zero_add _).symm⟩
      | ⟨3, _⟩ => exact ⟨Nat.zero_le _, (y 3).isLt.trans_eq (Nat.zero_add _).symm⟩
    · refine ⟨_, List.mem_cons_self, (Rect.mem_set_unit (s := S1x2x2048x64) (inb := inb_S1x2x2048x64_S1x1x2048x64_0_1_0_0)).mpr fun a => ?_⟩
      match a with
      | ⟨0, _⟩ => exact ⟨Nat.zero_le _, (y 0).isLt⟩
      | ⟨1, _⟩ => exact ⟨h0, (y 1).isLt⟩
      | ⟨2, _⟩ => exact ⟨Nat.zero_le _, (y 2).isLt.trans_eq (Nat.zero_add _).symm⟩
      | ⟨3, _⟩ => exact ⟨Nat.zero_le _, (y 3).isLt.trans_eq (Nat.zero_add _).symm⟩

end Cert.KernelIdeal.Body

end
-- ==== Proof.IdealFrame.lean ====
module

public import proofs.«01_k».proof.Proof.IdealStep

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ProbSparse

local notation "F" => Ideal

local notation "𝕄" => MT nD τ sig Unit (Elt F) ℕ (UR sig nD τ) ℕ

variable (m : (ℓ : Loc nD τ sig) → Buf (Elt F) ℓ) (ρ : Dev nD → PrngReg)

/-- What holds between points: the scratch buffers at contents the points so far have computed. -/
def Phi (c : Dev nD) (n : ℕ) : sProp 𝕄 :=
  iprop(∃ f7, ∃ f8, ⌜Inv7 m c (min n 12) f7 ∧ (12 < n → Inv8 m c f8)⌝ ∗ pt c scr0 f7 ∗ pt c scr1 f8 ∗ (∃ r, prngReg c r))

/-- The proof data: the arrays as the region finds them, each input's buffer at its block after every point, the output's
    at the block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
  Φ n := Phi m c n.val
  q _ := fullShare
  owed _ := 0

/-- The launch's data start from the arrays that the memory holds. -/
theorem A_eq (c : Dev nD) (w : Fin cfg0.W) : (dats m 0 c).A w = V m c (Pipeline.arrRef spec0 w) := by dsimp only [dats]
/-- A step leaves its query window as it found it. -/
theorem after0 (c : Dev nD) (t : Fin cfg0.N) : (dats m 0 c).after 0 t = iblk m c 0 t := by dsimp only [dats]
/-- A step leaves its key window as it found it. -/
theorem after1 (c : Dev nD) (t : Fin cfg0.N) : (dats m 0 c).after 1 t = iblk m c 1 t := by dsimp only [dats]
/-- A step leaves its value window as it found it. -/
theorem after2 (c : Dev nD) (t : Fin cfg0.N) : (dats m 0 c).after 2 t = iblk m c 2 t := by dsimp only [dats]
/-- In the data, a step leaves `outB` in the result window. -/
theorem after3 (c : Dev nD) (t : Fin cfg0.N) : (dats m 0 c).after 3 t = outB m c t := by dsimp only [dats]
/-- Before a step the query window holds that step's block. -/
theorem before0 (c : Dev nD) (t : Fin cfg0.N) (d) : (dats m 0 c).before 0 t d = iblk m c 0 t :=
  before0_0_of m (dats m 0 c) (A_eq m c 0) (after0 m c) t d
/-- Before a step the key window holds that step's block. -/
theorem before1 (c : Dev nD) (t : Fin cfg0.N) (d) : (dats m 0 c).before 1 t d = iblk m c 1 t :=
  before0_1_of m (dats m 0 c) (A_eq m c 1) (after1 m c) t d
/-- Before a step the value window holds that step's block. -/
theorem before2 (c : Dev nD) (t : Fin cfg0.N) (d) : (dats m 0 c).before 2 t d = iblk m c 2 t :=
  before0_2_of m (dats m 0 c) (A_eq m c 2) (after2 m c) t d

/-- Input windows are never idle: each ends a point at its block. -/
theorem leaves0 (c : Dev nD) (t : Fin cfg0.N) : (dats m 0 c).leavesExact 0 t = owns (c : Thread nD τ) (mem0 t) fullShare (iblk m c 0 t) := by
  rw [← after0]
/-- What a step gives back of the key window: its block, unchanged. -/
theorem leaves1 (c : Dev nD) (t : Fin cfg0.N) : (dats m 0 c).leavesExact 1 t = owns (c : Thread nD τ) (mem1 t) fullShare (iblk m c 1 t) := by
  rw [← after1]
/-- What a step gives back of the value window: its block, unchanged. -/
theorem leaves2 (c : Dev nD) (t : Fin cfg0.N) : (dats m 0 c).leavesExact 2 t = owns (c : Thread nD τ) (mem2 t) fullShare (iblk m c 2 t) := by
  rw [← after2]

/-- The output window is idle, and nothing of it is written back, exactly while the measures are taken. -/
theorem idle3 : ∀ t : Fin cfg0.N, cfg0.idle 3 (grid0.coords t) = decide (t.val < 12) := (by decide +kernel : ∀ t : Fin grid0.N, _)
/-- The first twelve steps write no result block back. -/
theorem flush3 : ∀ t : Fin cfg0.N, t.val < 12 → (cfg0.win 3).flush t = false := (by decide +kernel : ∀ t : Fin grid0.N, _)

/-- In the first twelve steps the result window keeps whatever it held. -/
theorem leaves3_idle (c : Dev nD) (t : Fin cfg0.N) (ht : t.val < 12) :
    (dats m 0 c).leavesExact 3 t = iprop(∃ d, owns (c : Thread nD τ) (mem3 t) fullShare ((dats m 0 c).before 3 t d)) :=
  (dats m 0 c).leavesExact_idle 3 t ((idle3 t).trans (decide_eq_true ht)) (flush3 t ht)
/-- From step twelve on the result window is left holding `outB`. -/
theorem leaves3 (c : Dev nD) (t : Fin cfg0.N) (ht : 12 ≤ t.val) :
    (dats m 0 c).leavesExact 3 t = owns (c : Thread nD τ) (mem3 t) fullShare (outB m c t) := by
  rw [← after3]
  unfold Dat.leavesExact
  rw [(idle3 t).trans (decide_eq_false (by omega))]

/-- A whole memref's contents that read as `X` are the memref owned at `X`. -/
theorem owns_of_read (c : Dev nD) {sp : Space} {S : Shape} {e : EltTy} (M : Memref sig .tc sp S e) (h : M.IsWhole) (f : Buf (Elt F) (M.view.loc (c : Thread nD τ)))
    {X : S.Idx → Elt F e} (e : M.view.read (Elt F) f = X) : pt c M f ⊢ owns (c : Thread nD τ) M fullShare X := by
  rw [← e]
  exact owns_of_pt c M h f

/-- What the body is called with at point `t`. -/
def pre (c : Dev nD) (t : Fin cfg0.N) : sProp 𝕄 :=
  iprop(Phi m c t.val
    ∗ owns (c : Thread nD τ) (mem0 t) fullShare (iblk m c 0 t)
    ∗ owns (c : Thread nD τ) (mem1 t) fullShare (iblk m c 1 t)
    ∗ owns (c : Thread nD τ) (mem2 t) fullShare (iblk m c 2 t)
    ∗ (∃ d, owns (c : Thread nD τ) (mem3 t) fullShare ((dats m 0 c).before 3 t d)))

/-- What it returns. -/
def post (c : Dev nD) (t : Fin cfg0.N) : sProp 𝕄 :=
  iprop(Phi m c (t.val + 1)
    ∗ owns (c : Thread nD τ) (mem0 t) fullShare (iblk m c 0 t)
    ∗ owns (c : Thread nD τ) (mem1 t) fullShare (iblk m c 1 t)
    ∗ owns (c : Thread nD τ) (mem2 t) fullShare (iblk m c 2 t)
    ∗ (dats m 0 c).leavesExact 3 t)

/-- The body's triple while the measures are taken. -/
theorem sound_A (c : Dev nD) (t : Fin cfg0.N) (h : t.val < 12) :
    pre m c t ⊢ wp frame (wpE defs₀ Variants.none c none) Set.univ (bodyAt0 t) (fun _ => post m c t) := by
  unfold pre post Phi bodyAt0
  rw [leaves3_idle m c t h]
  iintro ⟨⟨%f7, %f8, %hI, H7, H8, Hg⟩, H0, H1, H2, H3⟩
  have h1 := (hcond1 t).mpr h
  have h2 : ¬ condTopk (grid0.coords t) := fun h' => by have := (hcond2 t).mp h'; omega
  have h3 : ¬ k0_cond3 (grid0.coords t) = 1#1 := fun h' => by have := (hcond3 t).mp h'; omega
  have e : min t.val 12 = t.val := by omega
  have e' : min (t.val + 1) 12 = t.val + 1 := by omega
  have key := Inv7_step m c t h f7 (e ▸ hI.1) h1
  have hrun := (runA c (grid0.coords t) (mem0 t) (whole0 t) (mem1 t) (whole1 t) (mem2 t) (whole2 t) (mem3 t) (whole3 t) scr0 (Memref.isWhole_whole _) scr1 (Memref.isWhole_whole _) h1 h2 h3
    ((whole0 t).unread (iblk m c 0 t)) ((whole1 t).unread (iblk m c 1 t)) f7).2 Set.univ
  rw [runA_fst] at hrun
  generalize scr0.view.writes (Elt F) _ _ = W at hrun key
  ihave P0 := (pt_of_owns c (mem0 t) (whole0 t) (iblk m c 0 t)) $$ H0
  ihave P1 := (pt_of_owns c (mem1 t) (whole1 t) (iblk m c 1 t)) $$ H1
  iapply (hrun _)
  isplitl [P0]; · iexact P0
  isplitl [P1]; · iexact P1
  isplitl [H7]; · iexact H7
  iintro ⟨P0, P1, H7⟩
  isplitl [H7 H8 Hg]
  · iexists _; iexists f8
    isplitr
    · ipureintro
      exact ⟨e'.symm ▸ key, fun h' => absurd h' (by omega)⟩
    isplitl [H7]; · iexact H7
    isplitl [H8]; · iexact H8
    iexact Hg
  isplitl [P0]; · iapply (owns_unread c _ (whole0 t)); iexact P0
  isplitl [P1]; · iapply (owns_unread c _ (whole1 t)); iexact P1
  isplitl [H2]; · iexact H2
  iexact H3

/-- The body's triple at the point that selects and attends. -/
theorem sound_B (c : Dev nD) (t : Fin cfg0.N) (h : t.val = 12) :
    pre m c t ⊢ wp frame (wpE defs₀ Variants.none c none) Set.univ (bodyAt0 t) (fun _ => post m c t) := by
  unfold pre post Phi bodyAt0
  rw [leaves3 m c t (by omega)]
  iintro ⟨⟨%f7, %f8, %hI, H7, H8, Hg⟩, H0, H1, H2, ⟨%X, H3⟩⟩
  have h1 : ¬ k0_cond1 (grid0.coords t) = 1#1 := fun h' => by have := (hcond1 t).mp h'; omega
  have h2 := (hcond2 t).mpr h
  have h3 := (hcond3 t).mpr (by omega)
  have e : min t.val 12 = 12 := by omega
  have e' : min (t.val + 1) 12 = 12 := by omega
  have hI7 : Inv7 m c 12 f7 := e ▸ hI.1
  have hI8 := Inv8_step m c f7 scr1.view.junk hI7
  have key := out_step m c t (by omega) h3 ((whole3 t).unread ((dats m 0 c).before 3 t X)) _ hI8
  have hrun := (runB c (grid0.coords t) (mem0 t) (whole0 t) (mem1 t) (whole1 t) (mem2 t) (whole2 t) (mem3 t) (whole3 t) scr0 (Memref.isWhole_whole _) scr1 (Memref.isWhole_whole _) h1 h2 h3
    ((whole0 t).unread (iblk m c 0 t)) ((whole1 t).unread (iblk m c 1 t)) ((whole2 t).unread (iblk m c 2 t)) ((whole3 t).unread ((dats m 0 c).before 3 t X)) f7 f8).2 Set.univ
  rw [runB_fst c (grid0.coords t) (mem0 t) (whole0 t) (mem1 t) (whole1 t) (mem2 t) (whole2 t) (mem3 t) (whole3 t) scr0 (Memref.isWhole_whole _) scr1 (Memref.isWhole_whole _)
    h3 ((whole0 t).unread (iblk m c 0 t)) ((whole1 t).unread (iblk m c 1 t)) ((whole2 t).unread (iblk m c 2 t)) ((whole3 t).unread ((dats m 0 c).before 3 t X)) f7 f8 h1 h2] at hrun
  dsimp only at hrun
  generalize (mem3 t).view.writes (Elt F) _ _ = W at hrun key
  generalize scr1.view.writes (Elt F) _ _ = W8 at hrun hI8
  ihave P0 := (pt_of_owns c (mem0 t) (whole0 t) (iblk m c 0 t)) $$ H0
  ihave P1 := (pt_of_owns c (mem1 t) (whole1 t) (iblk m c 1 t)) $$ H1
  ihave P2 := (pt_of_owns c (mem2 t) (whole2 t) (iblk m c 2 t)) $$ H2
  ihave P3 := (pt_of_owns c (mem3 t) (whole3 t) ((dats m 0 c).before 3 t X)) $$ H3
  iapply (hrun _)
  isplitl [P0]; · iexact P0
  isplitl [P1]; · iexact P1
  isplitl [P2]; · iexact P2
  isplitl [P3]; · iexact P3
  isplitl [H7]; · iexact H7
  isplitl [H8]; · iexact H8
  iintro ⟨P0, P1, P2, P3, H7, H8⟩
  isplitl [H7 H8 Hg]
  · iexists f7; iexists _
    isplitr
    · ipureintro
      exact ⟨e'.symm ▸ hI7, fun _ => hI8⟩
    isplitl [H7]; · iexact H7
    isplitl [H8]; · iexact H8
    iexact Hg
  isplitl [P0]; · iapply (owns_unread c _ (whole0 t)); iexact P0
  isplitl [P1]; · iapply (owns_unread c _ (whole1 t)); iexact P1
  isplitl [P2]; · iapply (owns_unread c _ (whole2 t)); iexact P2
  iapply (owns_of_read c _ (whole3 t) _ key); iexact P3

/-- The body's triple at the points that only attend. -/
theorem sound_C (c : Dev nD) (t : Fin cfg0.N) (h : 12 < t.val) :
    pre m c t ⊢ wp frame (wpE defs₀ Variants.none c none) Set.univ (bodyAt0 t) (fun _ => post m c t) := by
  unfold pre post Phi bodyAt0
  rw [leaves3 m c t (by omega)]
  iintro ⟨⟨%f7, %f8, %hI, H7, H8, Hg⟩, H0, H1, H2, ⟨%X, H3⟩⟩
  have h1 : ¬ k0_cond1 (grid0.coords t) = 1#1 := fun h' => by have := (hcond1 t).mp h'; omega
  have h2 : ¬ condTopk (grid0.coords t) := fun h' => by have := (hcond2 t).mp h'; omega
  have h3 := (hcond3 t).mpr (by omega)
  have e : min t.val 12 = 12 := by omega
  have e' : min (t.val + 1) 12 = 12 := by omega
  have hI7 : Inv7 m c 12 f7 := e ▸ hI.1
  have hI8 := hI.2 h
  have key := out_step m c t (by omega) h3 ((whole3 t).unread ((dats m 0 c).before 3 t X)) _ hI8
  have hrun := (runC c (grid0.coords t) (mem0 t) (whole0 t) (mem1 t) (whole1 t) (mem2 t) (whole2 t) (mem3 t) (whole3 t) scr0 (Memref.isWhole_whole _) scr1 (Memref.isWhole_whole _) h1 h2 h3
    ((whole0 t).unread (iblk m c 0 t)) ((whole1 t).unread (iblk m c 1 t)) ((whole2 t).unread (iblk m c 2 t)) ((whole3 t).unread ((dats m 0 c).before 3 t X)) f8).2 Set.univ
  rw [runC_fst c (grid0.coords t) (mem0 t) (whole0 t) (mem1 t) (whole1 t) (mem2 t) (whole2 t) (mem3 t) (whole3 t) scr0 (Memref.isWhole_whole _) scr1 (Memref.isWhole_whole _)
    h3 ((whole0 t).unread (iblk m c 0 t)) ((whole1 t).unread (iblk m c 1 t)) ((whole2 t).unread (iblk m c 2 t)) ((whole3 t).unread ((dats m 0 c).before 3 t X)) f8 h1 h2] at hrun
  dsimp only at hrun
  generalize (mem3 t).view.writes (Elt F) _ _ = W at hrun key
  ihave P0 := (pt_of_owns c (mem0 t) (whole0 t) (iblk m c 0 t)) $$ H0
  ihave P1 := (pt_of_owns c (mem1 t) (whole1 t) (iblk m c 1 t)) $$ H1
  ihave P2 := (pt_of_owns c (mem2 t) (whole2 t) (iblk m c 2 t)) $$ H2
  ihave P3 := (pt_of_owns c (mem3 t) (whole3 t) ((dats m 0 c).before 3 t X)) $$ H3
  iapply (hrun _)
  isplitl [P0]; · iexact P0
  isplitl [P1]; · iexact P1
  isplitl [P2]; · iexact P2
  isplitl [P3]; · iexact P3
  isplitl [H8]; · iexact H8
  iintro ⟨P0, P1, P2, P3, H8⟩
  isplitl [H7 H8 Hg]
  · iexists f7; iexists f8
    isplitr
    · ipureintro
      exact ⟨e'.symm ▸ hI7, fun _ => hI8⟩
    isplitl [H7]; · iexact H7
    isplitl [H8]; · iexact H8
    iexact Hg
  isplitl [P0]; · iapply (owns_unread c _ (whole0 t)); iexact P0
  isplitl [P1]; · iapply (owns_unread c _ (whole1 t)); iexact P1
  isplitl [P2]; · iapply (owns_unread c _ (whole2 t)); iexact P2
  iapply (owns_of_read c _ (whole3 t) _ key); iexact P3

/-- The body's triple at every point. -/
theorem sound_body (c : Dev nD) (t : Fin cfg0.N) :
    pre m c t ⊢ wp frame (wpE defs₀ Variants.none c none) Set.univ (bodyAt0 t) (fun _ => post m c t) := by
  rcases Nat.lt_trichotomy t.val 12 with h | h | h
  · exact sound_A m c t h
  · exact sound_B m c t h
  · exact sound_C m c t h

/-- The body table's row at point `t` is the body there. -/
theorem defs₀_row (t : Fin cfg0.N) : (defs₀ : Defs nD τ sig (Elt F) Λ₀) .tc cfg0.body (cfg0.bodyArgs t (cfg0.slots t)) = bodyAt0 t := by
  unfold defs₀; rw [Defs.onTc_tc]

/-- What the pipeline calls the body with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d)))

/-- and what it expects back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- The body's triple in the pipeline's terms. -/
theorem body_triple (c : Dev nD) (t : Fin cfg0.N) :
    bodyPre m c t ⊢ wp frame (wpE defs₀ Variants.none c none) Set.univ (bodyAt0 t) (fun _ => bodyPost m c t) := by
  unfold bodyPre bodyPost
  simp only [before0, before1, before2]
  rw [leaves0, leaves1, leaves2, show (dats m 0 c).owesAt () t.succ = (dats m 0 c).owesAt () t.castSucc from rfl,
    show (dats m 0 c).Φ t.succ = Phi m c (t.val + 1) from rfl, show (dats m 0 c).Φ t.castSucc = Phi m c t.val from rfl]
  refine triple_restated (P := iprop((dats m 0 c).owesAt () t.castSucc ∗ pre m c t)) (Q := fun _ => iprop((dats m 0 c).owesAt () t.castSucc ∗ post m c t)) ?_ rfl ?_ fun _ => ?_
  · iintro ⟨Ho, H⟩
    iapply wp_frame_l
    isplitl [Ho]; · iexact Ho
    iapply (sound_body m c t); iexact H
  · unfold pre
    iintro ⟨HP, Ho, ⟨%d0, H0⟩, ⟨%d1, H1⟩, ⟨%d2, H2⟩, H3⟩
    isplitl [Ho]; · iexact Ho
    isplitl [HP]; · iexact HP
    isplitl [H0]; · iexact H0
    isplitl [H1]; · iexact H1
    isplitl [H2]; · iexact H2
    iexact H3
  · unfold post
    iintro ⟨Ho, HP, H0, H1, H2, H3⟩
    isplitl [HP]; · iexact HP
    isplitl [Ho]; · iexact Ho
    isplitl [H0]; · iexact H0
    isplitl [H1]; · iexact H1
    isplitl [H2]; · iexact H2
    iexact H3

/-- The pipeline's obligation for the body. -/
theorem body_obligation (c : Dev nD) : BodyObligation (dats m 0 c) defs₀ Variants.none () Set.univ := fun t => by
  rw [bigSep_W0, bigSep_W0, defs₀_row]
  exact triple_restated (body_triple m c t) rfl .rfl fun _ => .rfl

/-- Before the first point nothing is known of the scratch buffers. -/
theorem hin (c : Dev nD) : (Pipeline.ΦA spec0 c : sProp 𝕄) ⊢ (dats m 0 c).Φ 0 := by
  rw [show (dats m 0 c).Φ 0 = Phi m c 0 from rfl, PhiA_eq]
  unfold Phi
  iintro ⟨⟨⟨%f7, H7⟩, ⟨%f8, H8⟩⟩, Hg⟩
  iexists f7; iexists f8
  isplitr
  · ipureintro
    exact ⟨fun r l h => absurd h (by omega), fun h => absurd h (by omega)⟩
  isplitl [H7]; · iexact H7
  isplitl [H8]; · iexact H8
  iexact Hg

/-- After the last point what the scratch buffers hold is forgotten. -/
theorem hout (c : Dev nD) : (dats m 0 c).Φ (Fin.last cfg0.N) ⊢ (Pipeline.ΦA spec0 c : sProp 𝕄) := by
  rw [show (dats m 0 c).Φ (Fin.last cfg0.N) = Phi m c cfg0.N from rfl, PhiA_eq]
  unfold Phi
  iintro ⟨%f7, %f8, %hI, H7, H8, Hg⟩
  isplitl [H7 H8]
  · isplitl [H7]
    · iexists _; iexact H7
    iexists _; iexact H8
  iexact Hg

set_option backward.isDefEq.respectTransparency.types false in
/-- The launch: every run ends with the output's array at the blocks written back and every counter zero. -/
theorem run_main : θ_run defs (onTc (τ := τ) main) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters every run of the program ends, without a fault, with its arguments unchanged and
    every counter zero. -/
theorem frame : θ_run defs (onTc (τ := τ) main) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Body

end
-- ==== Proof.IdealOut.lean ====
module

public import proofs.«01_k».proof.Proof.IdealFrame

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ProbSparse

local notation "F" => Ideal

variable (m : (ℓ : Loc nD τ sig) → Buf (Elt F) ℓ) (ρ : Dev nD → PrngReg)

/-- The whole output: at batch `b` and head `h` what the specification gives for that head. -/
def outV (c : Dev nD) : S2x12x2048x64.Idx → EReal := fun i =>
  kout (qR m c ⟨12 * (i 0).val + (i 1).val, by have := (i 0).isLt; have := (i 1).isLt; dsimp at *; omega⟩)
    (kR m c ⟨12 * (i 0).val + (i 1).val, by have := (i 0).isLt; have := (i 1).isLt; dsimp at *; omega⟩)
    (vR m c ⟨12 * (i 0).val + (i 1).val, by have := (i 0).isLt; have := (i 1).isLt; dsimp at *; omega⟩) (i 2) (i 3)

/-- An entry of the output, its head named by its number. -/
theorem outV_eq (c : Dev nD) (i : S2x12x2048x64.Idx) (r : Fin 24) (l : Fin 2048) (d : Fin 64) (hr : 12 * (i 0).val + (i 1).val = r.val) (hl : (i 2).val = l.val)
    (hd : (i 3).val = d.val) : outV m c i = kout (qR m c r) (kR m c r) (vR m c r) l d := by
  obtain rfl : i 2 = l := Fin.ext hl
  obtain rfl : i 3 = d := Fin.ext hd
  unfold outV
  have e : (⟨12 * (i 0).val + (i 1).val, by have := (i 0).isLt; have := (i 1).isLt; dsimp at *; omega⟩ : Fin 24) = r := Fin.ext hr
  rw [e]

/-- The output is written back only while the heads are attended. -/
theorem flush3_le : ∀ t : Fin cfg0.N, (cfg0.win 3).flush t = true → 12 ≤ t.val := (by decide +kernel : ∀ t : Fin grid0.N, _)

/-- The output's array after the last point is the specification's. -/
theorem final (c : Dev nD) : (dats m 0 c).arrAt 3 cfg0.N = outV m c := by
  refine (dats m 0 c).arrAt_eq_of_covers 3 _ (by decide +kernel) fun t hf y => ?_
  have ht := flush3_le t hf
  have e := idx3 t ht
  have hN : t.val < 24 := t.isLt
  blk_simp
  rw [after3]
  unfold outB
  refine (outV_eq m c _ _ _ _ ?_ ?_ ?_).symm
  · blk_simp [e]
    show 12 * (t.val / 6 % 2) + (t.val % 6 * 2 + (y 1).val) = 2 * (t.val % 12) + (y 1).val
    omega
  · blk_simp [e]
  · blk_simp [e]

/-- From any memory with zero counters every run of the program ends with the output at the specification's values and its
    arguments unchanged. -/
theorem run_value : θ_run defs (onTc (τ := τ) main) ⟨m, fun _ => 0, ρ⟩ (fun r => ∀ c : Dev nD,
      r.2.mem ((c.tc : Thread nD τ).loc main_v3) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => fun c =>
    ⟨((h.1 c).1 3).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end Cert.KernelIdeal.Body

end
-- ==== Proof.RefStages.lean ====
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Stages

open Cert.ReferenceIdeal Cert.ReferenceIdeal.Gen Idealize.ShloMosaic Idealize.ShloMosaic.TcCoe Idealize.SL.Sem

/-! ### The reference's stages, each a function of the arrays it reads -/

/-- An argument with its heads before its positions. -/
def heads (A : FVec Ideal S2x2048x12x64 .f32) : FVec Ideal S2x12x2048x64 .f32 :=
  transpose S2x12x2048x64 [0, 2, 1, 3] A transposes_S2x2048x12x64_S2x12x2048x64_0_2_1_3

/-- The keys with their last two axes exchanged. -/
def keysT (K : FVec Ideal S2x2048x12x64 .f32) : FVec Ideal S2x12x64x2048 .f32 :=
  transpose S2x12x64x2048 [0, 1, 3, 2] (heads K) transposes_S2x12x2048x64_S2x12x64x2048_0_1_3_2

/-- Every query against every key. -/
def scores (Q K : FVec Ideal S2x2048x12x64 .f32) : FVec Ideal S2x12x2048x2048 .f32 :=
  Host.dotGeneral dot_S2x12x2048x64_S2x12x64x2048_S2x12x2048x2048_3_2_2_3_01_01 none (heads Q) (keysT K)

/-- Every query's greatest score. -/
def greatest (x : FVec Ideal S2x12x2048x2048 .f32) : FVec Ideal S2x12x2048 .f32 :=
  Host.reduce FloatOps.maximumf x (constant S_ .f32 0xFF800000#32) reducesTo_S2x12x2048x2048_S2x12x2048_d3 h_S_

/-- Every query's mean score. -/
def average (x : FVec Ideal S2x12x2048x2048 .f32) : FVec Ideal S2x12x2048 .f32 :=
  Host.divf (Host.reduceAdd x (constant S_ .f32 0x00000000#32) reducesTo_S2x12x2048x2048_S2x12x2048_d3 h_S_)
    (broadcastInDim S2x12x2048 ![] bcast_S_S2x12x2048 (constant S_ .f32 0x45000000#32))

/-- The measure of every query, of its scores. -/
def measOf (x : FVec Ideal S2x12x2048x2048 .f32) : FVec Ideal S2x12x2048 .f32 :=
  subf (greatest x) (average x)

/-- The forty queries of greatest measure. -/
def top (M : FVec Ideal S2x12x2048 .f32) : IVec S2x12x40 32 :=
  (Host.topK S2x12x40 2 (FloatOps.cmpfTotal .gt) M sliceFits_S2x12x2048_S2x12x40).2

/-- The batch's number. -/
def batchNo : IVec S2x1x1 32 := broadcastInDim S2x1x1 ![0] bcast_S2_S2x1x1_0 (iotaInDim S2 32 0)

/-- The head's number. -/
def headNo : IVec S1x12x1 32 := broadcastInDim S1x12x1 ![1] bcast_S12_S1x12x1_1 (iotaInDim S12 32 0)

/-- The index triples: batch, head, query, a negative one wrapped. -/
def triples (T : IVec S2x12x40 32) : IVec S2x12x40x3 32 :=
  concatenate S2x12x40x3 3
    [⟨S2x12x40x1, broadcastInDim S2x12x40x1 ![0, 1, 2] bcast_S2x12x40_S2x12x40x1_0_1_2
        (broadcastInDim S2x12x40 ![0, 1, 2] bcast_S2x1x1_S2x12x40_0_1_2
          (select (cmpi .slt batchNo (broadcastInDim S2x1x1 ![] bcast_S_S2x1x1 (constantI S_ 32 0#32)))
            (addi batchNo (broadcastInDim S2x1x1 ![] bcast_S_S2x1x1 (constantI S_ 32 2#32))) batchNo))⟩,
     ⟨S2x12x40x1, broadcastInDim S2x12x40x1 ![0, 1, 2] bcast_S2x12x40_S2x12x40x1_0_1_2
        (broadcastInDim S2x12x40 ![0, 1, 2] bcast_S1x12x1_S2x12x40_0_1_2
          (select (cmpi .slt headNo (broadcastInDim S1x12x1 ![] bcast_S_S1x12x1 (constantI S_ 32 0#32)))
            (addi headNo (broadcastInDim S1x12x1 ![] bcast_S_S1x12x1 (constantI S_ 32 12#32))) headNo))⟩,
     ⟨S2x12x40x1, broadcastInDim S2x12x40x1 ![0, 1, 2] bcast_S2x12x40_S2x12x40x1_0_1_2
        (select (cmpi .slt T (broadcastInDim S2x12x40 ![] bcast_S_S2x12x40 (constantI S_ 32 0#32)))
          (addi T (broadcastInDim S2x12x40 ![] bcast_S_S2x12x40 (constantI S_ 32 2048#32))) T)⟩]
    concatenates_S2x12x40x1_S2x12x40x1_S2x12x40x1_S2x12x40x3_d3

/-- The queries at the index triples. -/
def chosen (Q : FVec Ideal S2x2048x12x64 .f32) (I : IVec S2x12x40x3 32) : FVec Ideal S2x12x40x64 .f32 :=
  Host.gather gather_S2x12x2048x64_S2x12x40x3_S2x12x40x64_3_012_n_n_012_3_11164 (heads Q) I

/-- The chosen queries' scaled scores. -/
def scaled (C : FVec Ideal S2x12x40x64 .f32) (K : FVec Ideal S2x2048x12x64 .f32) : FVec Ideal S2x12x40x2048 .f32 :=
  mulf (Host.dotGeneral dot_S2x12x40x64_S2x12x64x2048_S2x12x40x2048_3_2_2_3_01_01 none C (keysT K))
    (broadcastInDim S2x12x40x2048 ![] bcast_S_S2x12x40x2048 (constant S_ .f32 0x3E000000#32))

/-- Every chosen query's greatest scaled score. -/
def greatest40 (x : FVec Ideal S2x12x40x2048 .f32) : FVec Ideal S2x12x40 .f32 :=
  Host.reduce FloatOps.maximumf x (constant S_ .f32 0xFF800000#32) reducesTo_S2x12x40x2048_S2x12x40_d3 h_S_

/-- The exponentials of an array less one entry for each row, no less than minus infinity. -/
def expLess (x : FVec Ideal S2x12x40x2048 .f32) (R : FVec Ideal S2x12x40 .f32) : FVec Ideal S2x12x40x2048 .f32 :=
  Host.exp (subf x
    (broadcastInDim S2x12x40x2048 ![0, 1, 2, 3] bcast_S2x12x40x1_S2x12x40x2048_0_1_2_3
      (broadcastInDim S2x12x40x1 ![0, 1, 2] bcast_S2x12x40_S2x12x40x1_0_1_2
        (maximumf (broadcastInDim S2x12x40 ![] bcast_S_S2x12x40 (constant S_ .f32 0xFF800000#32)) R))))

/-- The exponentials of the scores less their row's greatest. -/
def expo (x : FVec Ideal S2x12x40x2048 .f32) : FVec Ideal S2x12x40x2048 .f32 := expLess x (greatest40 x)

/-- The exponentials over their row's sum. -/
def weights (e : FVec Ideal S2x12x40x2048 .f32) : FVec Ideal S2x12x40x2048 .f32 :=
  Host.divf e
    (broadcastInDim S2x12x40x2048 ![0, 1, 2, 3] bcast_S2x12x40x1_S2x12x40x2048_0_1_2_3
      (broadcastInDim S2x12x40x1 ![0, 1, 2] bcast_S2x12x40_S2x12x40x1_0_1_2
        (Host.reduceAdd e (constant S_ .f32 0x00000000#32) reducesTo_S2x12x40x2048_S2x12x40_d3 h_S_)))

/-- The weighted values. -/
def attended (w : FVec Ideal S2x12x40x2048 .f32) (V : FVec Ideal S2x2048x12x64 .f32) : FVec Ideal S2x12x40x64 .f32 :=
  Host.dotGeneral dot_S2x12x40x2048_S2x12x2048x64_S2x12x40x64_3_2_2_3_01_01 none w (heads V)

/-- The mean of the values at every query. -/
def means (V : FVec Ideal S2x2048x12x64 .f32) : FVec Ideal S2x12x2048x64 .f32 :=
  broadcastInDim S2x12x2048x64 ![0, 1, 2, 3] bcast_S2x12x1x64_S2x12x2048x64_0_1_2_3
    (broadcastInDim S2x12x1x64 ![0, 1, 3] bcast_S2x12x64_S2x12x1x64_0_1_3
      (Host.divf (Host.reduceAdd (heads V) (constant S_ .f32 0x00000000#32) reducesTo_S2x12x2048x64_S2x12x64_d2 h_S_)
        (broadcastInDim S2x12x64 ![] bcast_S_S2x12x64 (constant S_ .f32 0x45000000#32))))

/-- The reference's result: the means with the chosen queries' attention written over them. -/
def whole (Q K V : FVec Ideal S2x2048x12x64 .f32) : FVec Ideal S2x12x2048x64 .f32 :=
  Host.scatter scatter_S2x12x2048x64_S2x12x40x3_S2x12x40x64_3_012_012_3 (fun _ b => b) (means V)
    (triples (top (measOf (scores Q K))))
    (attended (weights (expo (scaled (chosen Q (triples (top (measOf (scores Q K))))) K))) V)

/-- The generated term is these stages composed. -/
theorem res_eq (m : (ℓ : Loc nD τ sig) → Buf (Elt Ideal) ℓ) (c : Dev nD) :
    Cert.ReferenceIdeal.Value.res_main_v78 m c
      = whole (m ((c.tc : Thread nD τ).loc main_arg0)) (m ((c.tc : Thread nD τ).loc main_arg1)) (m ((c.tc : Thread nD τ).loc main_arg2)) := by
  unfold Cert.ReferenceIdeal.Value.res_main_v78
  rfl

end Cert.ReferenceIdeal.Stages

end
-- ==== Proof.RefMeasure.lean ====
module

public import proofs.«01_k».proof.Proof.RefStages
public import proofs.«01_k».proof.Proof.IdealBlocks

@[expose] public section

set_option maxRecDepth 16384

noncomputable section

namespace Cert.ReferenceIdeal.Stages

open Cert.ReferenceIdeal Cert.ReferenceIdeal.Gen Idealize.ShloMosaic Idealize.ShloMosaic.TcCoe Idealize.SL.Sem ProbSparse

/-- An entry with its head before its position, read in the argument. -/
theorem heads_at (A : FVec Ideal S2x2048x12x64 .f32) (b : Fin 2) (h : Fin 12) (l : Fin 2048) (d : Fin 64) :
    heads A (ix4 b h l d) = A (ix4 b l h d) := by
  simp only [heads, pointwise]

/-- An entry of the exchanged keys, read in the argument. -/
theorem keysT_at (A : FVec Ideal S2x2048x12x64 .f32) (b : Fin 2) (h : Fin 12) (d : Fin 64) (l : Fin 2048) :
    keysT A (ix4 b h d l) = A (ix4 b l h d) := by
  simp only [keysT, heads, pointwise]

/-- A score of the reference: the sum of products of a query with a key. -/
theorem scores_at (Q K : FVec Ideal S2x2048x12x64 .f32) (b : Fin 2) (h : Fin 12) (l j : Fin 2048) :
    scores Q K (ix4 b h l j) = ∑ d, Q (ix4 b l h d) * K (ix4 b j h d) := by
  simp only [scores, keysT, heads, pointwise]
  exact zero_add _

end Cert.ReferenceIdeal.Stages

end
-- ==== Proof.RefIndex.lean ====
module

public import proofs.«01_k».proof.Proof.RefMeasure
public import Idealize.ShloMosaic.Lib.Routing.OpsPair
public import Idealize.ShloMosaic.Lib.Routing.OpsSet

@[expose] public section

set_option maxRecDepth 16384

noncomputable section

namespace Cert.ReferenceIdeal.Stages

open Cert.ReferenceIdeal Cert.ReferenceIdeal.Gen Idealize.ShloMosaic Idealize.ShloMosaic.TcCoe Idealize.SL.Sem ProbSparse

/-- The three words of a triple, each an array with one entry more on the last axis. -/
def parts (T : IVec S2x12x40 32) : Fin 3 → IVec S2x12x40x1 32 :=
  ![broadcastInDim S2x12x40x1 ![0, 1, 2] bcast_S2x12x40_S2x12x40x1_0_1_2
      (broadcastInDim S2x12x40 ![0, 1, 2] bcast_S2x1x1_S2x12x40_0_1_2
        (select (cmpi .slt batchNo (broadcastInDim S2x1x1 ![] bcast_S_S2x1x1 (constantI S_ 32 0#32)))
          (addi batchNo (broadcastInDim S2x1x1 ![] bcast_S_S2x1x1 (constantI S_ 32 2#32))) batchNo)),
    broadcastInDim S2x12x40x1 ![0, 1, 2] bcast_S2x12x40_S2x12x40x1_0_1_2
      (broadcastInDim S2x12x40 ![0, 1, 2] bcast_S1x12x1_S2x12x40_0_1_2
        (select (cmpi .slt headNo (broadcastInDim S1x12x1 ![] bcast_S_S1x12x1 (constantI S_ 32 0#32)))
          (addi headNo (broadcastInDim S1x12x1 ![] bcast_S_S1x12x1 (constantI S_ 32 12#32))) headNo)),
    broadcastInDim S2x12x40x1 ![0, 1, 2] bcast_S2x12x40_S2x12x40x1_0_1_2
      (select (cmpi .slt T (broadcastInDim S2x12x40 ![] bcast_S_S2x12x40 (constantI S_ 32 0#32)))
        (addi T (broadcastInDim S2x12x40 ![] bcast_S_S2x12x40 (constantI S_ 32 2048#32))) T)]

/-- The index triples are three columns set side by side. -/
theorem triples_parts (T : IVec S2x12x40 32) :
    triples T = concatenate S2x12x40x3 3 (List.ofFn fun n : Fin 3 => (⟨S2x12x40x1, parts T n⟩ : (s : Shape) × (s.Idx → BitVec 32)))
      concatenates_S2x12x40x1_S2x12x40x1_S2x12x40x1_S2x12x40x3_d3 := rfl

/-- Word `n` of a triple is read off the `n`th array. -/
theorem triples_at (T : IVec S2x12x40 32) (b : Fin 2) (h : Fin 12) (t : Fin 40) (n : Fin 3) :
    triples T (ix4 b h t n) = parts T n (ix4 b h t (0 : Fin 1)) := by
  rw [triples_parts]
  refine (concatenate_ofFn_unit_apply' (3 : Fin S2x12x40x3.rank) (parts T) _ rfl (ix4 b h t n)).trans ?_
  refine congrArg (parts T n) ?_
  rw [Shape.Idx.norm_def]
  funext a
  match a with
  | ⟨0, _⟩ => rfl
  | ⟨1, _⟩ => rfl
  | ⟨2, _⟩ => rfl
  | ⟨3, _⟩ => rfl

/-- A word below half the range is not wrapped. -/
theorem wrapped (x a : BitVec 32) (n : ℕ) (hn : n < 2048) (hx : x = BitVec.ofNat 32 n) :
    Scalar.select (IntOp.cmpi .slt x 0#32) a x = BitVec.ofNat 32 n := by
  subst hx
  refine Routing.wrap_of_lt _ a ?_
  rw [BitVec.toNat_ofNat, Nat.mod_eq_of_lt (by omega)]
  omega

/-- The triple's words: the batch, the head and the query. -/
theorem parts_zero (T : IVec S2x12x40 32) (b : Fin 2) (h : Fin 12) (t : Fin 40) :
    parts T 0 (ix4 b h t (0 : Fin 1)) = BitVec.ofNat 32 b.val := by
  show broadcastInDim S2x12x40x1 ![0, 1, 2] bcast_S2x12x40_S2x12x40x1_0_1_2
      (broadcastInDim S2x12x40 ![0, 1, 2] bcast_S2x1x1_S2x12x40_0_1_2
        (select (cmpi .slt batchNo (broadcastInDim S2x1x1 ![] bcast_S_S2x1x1 (constantI S_ 32 0#32)))
          (addi batchNo (broadcastInDim S2x1x1 ![] bcast_S_S2x1x1 (constantI S_ 32 2#32))) batchNo)) (ix4 b h t (0 : Fin 1)) = _
  simp only [batchNo, pointwise]
  exact wrapped _ _ b.val (by omega) rfl

/-- The second word of a triple is the head. -/
theorem parts_one (T : IVec S2x12x40 32) (b : Fin 2) (h : Fin 12) (t : Fin 40) :
    parts T 1 (ix4 b h t (0 : Fin 1)) = BitVec.ofNat 32 h.val := by
  show broadcastInDim S2x12x40x1 ![0, 1, 2] bcast_S2x12x40_S2x12x40x1_0_1_2
      (broadcastInDim S2x12x40 ![0, 1, 2] bcast_S1x12x1_S2x12x40_0_1_2
        (select (cmpi .slt headNo (broadcastInDim S1x12x1 ![] bcast_S_S1x12x1 (constantI S_ 32 0#32)))
          (addi headNo (broadcastInDim S1x12x1 ![] bcast_S_S1x12x1 (constantI S_ 32 12#32))) headNo)) (ix4 b h t (0 : Fin 1)) = _
  simp only [headNo, pointwise]
  exact wrapped _ _ h.val (by omega) rfl

/-- The third word of a triple is the selected position. -/
theorem parts_two (T : IVec S2x12x40 32) (b : Fin 2) (h : Fin 12) (t : Fin 40) (n : ℕ) (hn : n < 2048)
    (hT : T (ix3 b h t) = BitVec.ofNat 32 n) :
    parts T 2 (ix4 b h t (0 : Fin 1)) = BitVec.ofNat 32 n := by
  show broadcastInDim S2x12x40x1 ![0, 1, 2] bcast_S2x12x40_S2x12x40x1_0_1_2
      (select (cmpi .slt T (broadcastInDim S2x12x40 ![] bcast_S_S2x12x40 (constantI S_ 32 0#32)))
        (addi T (broadcastInDim S2x12x40 ![] bcast_S_S2x12x40 (constantI S_ 32 2048#32))) T) (ix4 b h t (0 : Fin 1)) = _
  simp only [pointwise]
  exact wrapped _ _ n hn hT

end Cert.ReferenceIdeal.Stages

end
-- ==== Proof.RefPlace.lean ====
module

public import proofs.«01_k».proof.Proof.RefIndex

@[expose] public section

set_option maxRecDepth 16384

noncomputable section

namespace Cert.ReferenceIdeal.Stages

open Cert.ReferenceIdeal Cert.ReferenceIdeal.Gen Idealize.ShloMosaic Idealize.ShloMosaic.TcCoe Idealize.SL.Sem ProbSparse

/-- The gather reads its index words at the result's batch, head and step. -/
theorem gather_si (b : Fin 2) (h : Fin 12) (t : Fin 40) (d : Fin 64) (n : Fin 3) :
    GatherDims.siIdx gather_S2x12x2048x64_S2x12x40x3_S2x12x40x64_3_012_n_n_012_3_11164 (ix4 b h t d) n = ix4 b h t n := by
  funext a
  match a with
  | ⟨0, _⟩ => rfl
  | ⟨1, _⟩ => rfl
  | ⟨2, _⟩ => rfl
  | ⟨3, _⟩ => rfl

/-- The scatter reads its index words at the update's batch, head and step. -/
theorem scatter_si (b : Fin 2) (h : Fin 12) (t : Fin 40) (d : Fin 64) (n : Fin 3) :
    ScatterDims.siIdx scatter_S2x12x2048x64_S2x12x40x3_S2x12x40x64_3_012_012_3 (ix4 b h t d) n = ix4 b h t n := by
  funext a
  match a with
  | ⟨0, _⟩ => rfl
  | ⟨1, _⟩ => rfl
  | ⟨2, _⟩ => rfl
  | ⟨3, _⟩ => rfl

/-- A word of a number below 2048, read as a signed integer, is that number. -/
theorem toInt_word (n : ℕ) (hn : n < 2048) : (BitVec.ofNat 32 n).toInt = (n : ℤ) := by
  rw [BitVec.toInt_eq_toNat_cond, BitVec.toNat_ofNat, Nat.mod_eq_of_lt (by omega), if_pos (by omega)]

section
variable (I : IVec S2x12x40x3 32) (b : Fin 2) (h : Fin 12) (t : Fin 40) (l : Fin 2048)
  (h0 : I (ix4 b h t (0 : Fin 3)) = BitVec.ofNat 32 b.val) (h1 : I (ix4 b h t (1 : Fin 3)) = BitVec.ofNat 32 h.val)
  (h2 : I (ix4 b h t (2 : Fin 3)) = BitVec.ofNat 32 l.val)

include h0 h1 h2

/-- The gather's element: the one its triple names. -/
theorem gather_place (d : Fin 64) : GatherDims.operandIdx gather_S2x12x2048x64_S2x12x40x3_S2x12x40x64_3_012_n_n_012_3_11164 (ix4 b h t d) I = ix4 b h l d := by
  funext a
  apply Fin.ext
  match a with
  | ⟨0, _⟩ =>
    show min (I (GatherDims.siIdx gather_S2x12x2048x64_S2x12x40x3_S2x12x40x64_3_012_n_n_012_3_11164 (ix4 b h t d) (0 : Fin 3))).toInt.toNat (2 - 1) + 0 + 0 = b.val
    rw [gather_si, h0, toInt_word _ (by omega)]
    omega
  | ⟨1, _⟩ =>
    show min (I (GatherDims.siIdx gather_S2x12x2048x64_S2x12x40x3_S2x12x40x64_3_012_n_n_012_3_11164 (ix4 b h t d) (1 : Fin 3))).toInt.toNat (12 - 1) + 0 + 0 = h.val
    rw [gather_si, h1, toInt_word _ (by omega)]
    omega
  | ⟨2, _⟩ =>
    show min (I (GatherDims.siIdx gather_S2x12x2048x64_S2x12x40x3_S2x12x40x64_3_012_n_n_012_3_11164 (ix4 b h t d) (2 : Fin 3))).toInt.toNat (2048 - 1) + 0 + 0 = l.val
    rw [gather_si, h2, toInt_word _ (by omega)]
    omega
  | ⟨3, _⟩ =>
    show 0 + 0 + d.val = d.val
    omega

/-- The chosen query's row. -/
theorem chosen_at (Q : FVec Ideal S2x2048x12x64 .f32) (d : Fin 64) :
    chosen Q I (ix4 b h t d) = Q (ix4 b l h d) := by
  unfold chosen Host.gather
  rw [gather_place I b h t l h0 h1 h2 d]
  exact heads_at Q b h l d

/-- An update lands at the element its triple names. -/
theorem scatter_place (d : Fin 64) : ScatterDims.resultIdx? scatter_S2x12x2048x64_S2x12x40x3_S2x12x40x64_3_012_012_3 (ix4 b h t d) I = some (ix4 b h l d) := by
  rw [Routing.resultIdx?_eq_some]
  intro a
  match a with
  | ⟨0, _⟩ =>
    show (I (ScatterDims.siIdx scatter_S2x12x2048x64_S2x12x40x3_S2x12x40x64_3_012_012_3 (ix4 b h t d) (0 : Fin 3))).toInt + ((0 : ℕ) : ℤ) = (b.val : ℤ)
    rw [scatter_si, h0, toInt_word _ (by omega)]
    omega
  | ⟨1, _⟩ =>
    show (I (ScatterDims.siIdx scatter_S2x12x2048x64_S2x12x40x3_S2x12x40x64_3_012_012_3 (ix4 b h t d) (1 : Fin 3))).toInt + ((0 : ℕ) : ℤ) = (h.val : ℤ)
    rw [scatter_si, h1, toInt_word _ (by omega)]
    omega
  | ⟨2, _⟩ =>
    show (I (ScatterDims.siIdx scatter_S2x12x2048x64_S2x12x40x3_S2x12x40x64_3_012_012_3 (ix4 b h t d) (2 : Fin 3))).toInt + ((0 : ℕ) : ℤ) = (l.val : ℤ)
    rw [scatter_si, h2, toInt_word _ (by omega)]
    omega
  | ⟨3, _⟩ =>
    show (0 : ℤ) + ((d.val : ℕ) : ℤ) = (d.val : ℤ)
    omega

end

end Cert.ReferenceIdeal.Stages

end
-- ==== Proof.RefAttend.lean ====
module

public import proofs.«01_k».proof.Proof.RefMeasure

@[expose] public section

set_option maxRecDepth 16384

noncomputable section

namespace Cert.ReferenceIdeal.Stages

open Cert.ReferenceIdeal Cert.ReferenceIdeal.Gen Idealize.ShloMosaic Idealize.ShloMosaic.TcCoe Idealize.SL.Sem ProbSparse

/-- The reference's scaled scores of one selected query. -/
theorem scaled_at (C : FVec Ideal S2x12x40x64 .f32) (K : FVec Ideal S2x2048x12x64 .f32) (q k : Fin 2048 → Fin 64 → EReal)
    (b : Fin 2) (h : Fin 12) (t : Fin 40) (l : Fin 2048) (hC : ∀ d, C (ix4 b h t d) = q l d)
    (hK : ∀ j d, K (ix4 b j h d) = k j d) (j : Fin 2048) :
    scaled C K (ix4 b h t j) = sc q k l j := by
  simp only [scaled, keysT, heads, pointwise]
  unfold sc dots
  rw [word_eighth]
  refine congrArg (· * _) ((zero_add _).trans (Finset.sum_congr rfl fun d _ => congrArg₂ (· * ·) (hC d) (hK j d)))

/-- The maximum over the keys of one selected query, as a supremum. -/
theorem reduced40_at (x : FVec Ideal S2x12x40x2048 .f32) (f : Fin 2048 → EReal) (b : Fin 2) (h : Fin 12) (t : Fin 40)
    (hx : ∀ j, x (ix4 b h t j) = f j) :
    Host.reduce FloatOps.maximumf x (constant S_ .f32 0xFF800000#32) reducesTo_S2x12x40x2048_S2x12x40_d3 h_S_ (ix3 b h t)
      = Finset.univ.sup f := by
  simp only [pointwise]
  simp only [hx]
  exact Cert.KernelIdeal.Body.fold_max_sup _

/-- The greatest score of one selected query. -/
theorem greatest40_at (x : FVec Ideal S2x12x40x2048 .f32) (f : Fin 2048 → EReal) (b : Fin 2) (h : Fin 12) (t : Fin 40)
    (hx : ∀ j, x (ix4 b h t j) = f j) : greatest40 x (ix3 b h t) = Finset.univ.sup f := by
  unfold greatest40
  exact reduced40_at x f b h t hx

/-- The exponential of a score less a row's value. -/
theorem expLess_at (x : FVec Ideal S2x12x40x2048 .f32) (R : FVec Ideal S2x12x40 .f32) (f : Fin 2048 → EReal) (g : EReal)
    (b : Fin 2) (h : Fin 12) (t : Fin 40) (hx : ∀ j, x (ix4 b h t j) = f j) (hR : R (ix3 b h t) = g) (j : Fin 2048) :
    expLess x R (ix4 b h t j) = Ideal.exp (f j - g) := by
  simp only [expLess, pointwise]
  rw [word_bot]
  exact congrArg Ideal.exp (congrArg₂ (· - ·) (hx j) ((max_eq_right bot_le).trans hR))

/-- The reference's exponentials of one selected query. -/
theorem expo_at (x : FVec Ideal S2x12x40x2048 .f32) (q k : Fin 2048 → Fin 64 → EReal)
    (b : Fin 2) (h : Fin 12) (t : Fin 40) (l : Fin 2048) (hx : ∀ j, x (ix4 b h t j) = sc q k l j) (j : Fin 2048) :
    expo x (ix4 b h t j) = ex q k l j := by
  unfold expo ex
  exact expLess_at x _ (sc q k l) _ b h t hx (greatest40_at x (sc q k l) b h t hx) j

/-- The reference's weights: each exponential over the row's sum. -/
theorem weights_at (e : FVec Ideal S2x12x40x2048 .f32) (w : Fin 2048 → EReal)
    (b : Fin 2) (h : Fin 12) (t : Fin 40) (he : ∀ j, e (ix4 b h t j) = w j) (j : Fin 2048) :
    weights e (ix4 b h t j) = Ideal.div (w j) (∑ j', w j') := by
  simp only [weights, pointwise]
  exact congrArg₂ Ideal.div (he j) ((zero_add _).trans (Finset.sum_congr rfl fun j' _ => he j'))

/-- The weighted sum of the values for one selected query. -/
theorem attended_at (x : FVec Ideal S2x12x40x2048 .f32) (V : FVec Ideal S2x2048x12x64 .f32) (w : Fin 2048 → EReal)
    (v : Fin 2048 → Fin 64 → EReal) (b : Fin 2) (h : Fin 12) (t : Fin 40) (hx : ∀ j, x (ix4 b h t j) = w j)
    (hV : ∀ j d, V (ix4 b j h d) = v j d) (d : Fin 64) :
    attended x V (ix4 b h t d) = ∑ j, w j * v j d := by
  simp only [attended, heads, pointwise]
  exact (zero_add _).trans (Finset.sum_congr rfl fun j _ => congrArg₂ (· * ·) (hx j) (hV j d))

/-- The attention of the query `l` chosen at step `t`. -/
theorem attention_at (C : FVec Ideal S2x12x40x64 .f32) (K V : FVec Ideal S2x2048x12x64 .f32) (q k v : Fin 2048 → Fin 64 → EReal)
    (b : Fin 2) (h : Fin 12) (t : Fin 40) (l : Fin 2048) (hC : ∀ d, C (ix4 b h t d) = q l d)
    (hK : ∀ j d, K (ix4 b j h d) = k j d) (hV : ∀ j d, V (ix4 b j h d) = v j d) (d : Fin 64) :
    attended (weights (expo (scaled C K))) V (ix4 b h t d) = upd q k v l d :=
  attended_at _ V _ v b h t (weights_at _ _ b h t (expo_at _ q k b h t l (scaled_at C K q k b h t l hC hK))) hV d

/-- The mean of the values. -/
theorem means_at (V : FVec Ideal S2x2048x12x64 .f32) (v : Fin 2048 → Fin 64 → EReal) (b : Fin 2) (h : Fin 12) (l : Fin 2048) (d : Fin 64)
    (hV : ∀ j d, V (ix4 b j h d) = v j d) : means V (ix4 b h l d) = mean v d := by
  simp only [means, heads, pointwise]
  rw [word_2048]
  refine (div_2048 _).trans ?_
  unfold mean
  exact congrArg (· * _) ((zero_add _).trans (Finset.sum_congr rfl fun j _ => hV j d))

end Cert.ReferenceIdeal.Stages

end
-- ==== Proof.RefTop.lean ====
module

public import proofs.«01_k».proof.Proof.RefMeasure

@[expose] public section

set_option maxRecDepth 16384

noncomputable section

namespace Cert.ReferenceIdeal.Stages

open Cert.ReferenceIdeal Cert.ReferenceIdeal.Gen Idealize.ShloMosaic Idealize.ShloMosaic.TcCoe Idealize.SL.Sem ProbSparse

/-- The maximum over the keys of one query, as a supremum. -/
theorem reduced_at (x : FVec Ideal S2x12x2048x2048 .f32) (f : Fin 2048 → EReal) (b : Fin 2) (h : Fin 12) (l : Fin 2048)
    (hx : ∀ j, x (ix4 b h l j) = f j) :
    Host.reduce FloatOps.maximumf x (constant S_ .f32 0xFF800000#32) reducesTo_S2x12x2048x2048_S2x12x2048_d3 h_S_ (ix3 b h l)
      = Finset.univ.sup f := by
  simp only [pointwise]
  simp only [hx]
  exact Cert.KernelIdeal.Body.fold_max_sup _

/-- The greatest score of one query. -/
theorem greatest_at (x : FVec Ideal S2x12x2048x2048 .f32) (f : Fin 2048 → EReal) (b : Fin 2) (h : Fin 12) (l : Fin 2048)
    (hx : ∀ j, x (ix4 b h l j) = f j) : greatest x (ix3 b h l) = Finset.univ.sup f := by
  unfold greatest
  exact reduced_at x f b h l hx

/-- The mean score of one query. -/
theorem average_at (x : FVec Ideal S2x12x2048x2048 .f32) (f : Fin 2048 → EReal) (b : Fin 2) (h : Fin 12) (l : Fin 2048)
    (hx : ∀ j, x (ix4 b h l j) = f j) : average x (ix3 b h l) = (∑ j, f j) * ((1 / 2048 : ℝ) : EReal) := by
  simp only [average, pointwise]
  rw [word_2048]
  exact (div_2048 _).trans (congrArg (· * _) ((zero_add _).trans (Finset.sum_congr rfl fun j _ => hx j)))

/-- An entry of a difference of arrays. -/
theorem less_at (G A : FVec Ideal S2x12x2048 .f32) (i : S2x12x2048.Idx) (g a : EReal) (hG : G i = g) (hA : A i = a) :
    subf G A i = g - a := by
  subst hG hA
  rfl

/-- The reference's measure of one query is `meas`. -/
theorem measOf_at (x : FVec Ideal S2x12x2048x2048 .f32) (q k : Fin 2048 → Fin 64 → EReal) (b : Fin 2) (h : Fin 12) (l : Fin 2048)
    (hx : ∀ j, x (ix4 b h l j) = dots q k l j) :
    measOf x (ix3 b h l) = meas q k l := by
  unfold measOf meas
  exact less_at _ _ _ _ _ (greatest_at x (dots q k l) b h l hx) (average_at x (dots q k l) b h l hx)

/-- A row's position after the sort, of that row's measures. -/
theorem along_at (b : Fin 2) (h : Fin 12) (l k : Fin 2048) :
    Shape.Idx.along (s := S2x12x2048) (ix3 b h l) (2 : Fin S2x12x2048.rank) k = ix3 b h k := by
  funext a
  match a with
  | ⟨0, _⟩ => rfl
  | ⟨1, _⟩ => rfl
  | ⟨2, _⟩ => rfl

/-- The position of an index moved along its last axis. -/
theorem along_val (b : Fin 2) (h : Fin 12) (l k : Fin 2048) :
    ((Shape.Idx.along (s := S2x12x2048) (ix3 b h l) (2 : Fin S2x12x2048.rank) k) 2).val = k.val := by
  rw [along_at]
  rfl

/-- The greater-than of the total order is that of the extended reals. -/
theorem gt_iff (x y : EReal) :
    ((FloatOps.cmpfTotal (F := Ideal) (φ := FTy.f32) CmpDirection.gt x y == 1#1) = true) ↔ y < x := by
  show (BitVec.ofBool (decide (y < x)) == 1#1) = true ↔ _
  by_cases hxy : y < x
  · simp [hxy]
  · simp [hxy]

/-- The sorted indices at `t`: the position the sort puts there. -/
theorem top_sorted (M : FVec Ideal S2x12x2048 .f32) (b : Fin 2) (h : Fin 12) (t : Fin 40) :
    top M (ix3 b h t) = BitVec.ofNat 32 (sortedFrom (fun k k' : Fin 2048 =>
      FloatOps.cmpfTotal (F := Ideal) (φ := FTy.f32) CmpDirection.gt (M (ix3 b h k)) (M (ix3 b h k')) == 1#1)
      (⟨t.val, by omega⟩ : Fin 2048)).val := by
  simp only [top, Host.topK, Host.sort2, pointwise]
  rw [dif_pos (by decide)]
  dsimp only
  rw [dif_pos (by decide)]
  refine congrArg (BitVec.ofNat 32) ((along_val _ _ _ _).trans (congrArg Fin.val ?_))
  simp only [Nat.zero_add, along_at]
  rfl

/-- The sorted indices at `t`: the query selected at step `t`. -/
theorem top_at (M : FVec Ideal S2x12x2048 .f32) (μ : Fin 2048 → EReal) (hμ : ∀ l, μ l ≠ ⊥) (b : Fin 2) (h : Fin 12) (t : Fin 40)
    (hM : ∀ l, M (ix3 b h l) = μ l) :
    top M (ix3 b h t) = BitVec.ofNat 32 (sel μ t.val).val := by
  rw [top_sorted, sortedFrom_eq_sel μ hμ _ (fun a c => ?_) _]
  rw [hM, hM]
  exact gt_iff _ _

end Cert.ReferenceIdeal.Stages

end
-- ==== Proof.RefValue.lean ====
module

public import proofs.«01_k».proof.Proof.RefPlace
public import proofs.«01_k».proof.Proof.RefAttend
public import proofs.«01_k».proof.Proof.RefTop

@[expose] public section

set_option maxRecDepth 16384

noncomputable section

namespace Cert.ReferenceIdeal.Stages

open Cert.ReferenceIdeal Cert.ReferenceIdeal.Gen Idealize.ShloMosaic Idealize.ShloMosaic.TcCoe Idealize.SL.Sem ProbSparse

/-- One batch's and head's positions of an argument. -/
abbrev rows (A : FVec Ideal S2x2048x12x64 .f32) (b : Fin 2) (h : Fin 12) : Fin 2048 → Fin 64 → EReal := fun l d => A (ix4 b l h d)

/-- Every index of an update is a batch, a head, a step and a component. -/
theorem split4 (k : S2x12x40x64.Idx) : ∃ (b : Fin 2) (h : Fin 12) (t : Fin 40) (d : Fin 64), k = ix4 b h t d := by
  refine ⟨k 0, k 1, k 2, k 3, ?_⟩
  funext a
  match a with
  | ⟨0, _⟩ => rfl
  | ⟨1, _⟩ => rfl
  | ⟨2, _⟩ => rfl
  | ⟨3, _⟩ => rfl

/-- Equal indices of the result have equal coordinates. -/
theorem coords {b b' : Fin 2} {h h' : Fin 12} {l l' : Fin 2048} {d d' : Fin 64}
    (e : (ix4 b h l d : S2x12x2048x64.Idx) = ix4 b' h' l' d') : b = b' ∧ h = h' ∧ l = l' ∧ d = d' :=
  ⟨congrFun e 0, congrFun e 1, congrFun e 2, congrFun e 3⟩

section
variable (Q K V : FVec Ideal S2x2048x12x64 .f32) (hM : ∀ b h l, meas (rows Q b h) (rows K b h) l ≠ ⊥)

/-- The query selected at step `t`. -/
abbrev picked (b : Fin 2) (h : Fin 12) (t : Fin 40) : Fin 2048 := sel (meas (rows Q b h) (rows K b h)) t.val

include hM

/-- The reference's selected position, as a word, is that of `picked`. -/
theorem top_word (b : Fin 2) (h : Fin 12) (t : Fin 40) :
    top (measOf (scores Q K)) (ix3 b h t) = BitVec.ofNat 32 (picked Q K b h t).val :=
  top_at _ _ (hM b h) b h t fun l => measOf_at _ _ _ b h l fun j => scores_at Q K b h l j

/-- Where the update of step `t` lands. -/
theorem lands (b : Fin 2) (h : Fin 12) (t : Fin 40) (d : Fin 64) :
    ScatterDims.resultIdx? scatter_S2x12x2048x64_S2x12x40x3_S2x12x40x64_3_012_012_3 (ix4 b h t d) (triples (top (measOf (scores Q K))))
      = some (ix4 b h (picked Q K b h t) d) :=
  scatter_place _ b h t _ ((triples_at _ b h t 0).trans (parts_zero _ b h t)) ((triples_at _ b h t 1).trans (parts_one _ b h t))
    ((triples_at _ b h t 2).trans (parts_two _ b h t _ (picked Q K b h t).isLt (top_word Q K hM b h t))) d

/-- The update of step `t`: its query's attention. -/
theorem update (b : Fin 2) (h : Fin 12) (t : Fin 40) (d : Fin 64) :
    attended (weights (expo (scaled (chosen Q (triples (top (measOf (scores Q K))))) K))) V (ix4 b h t d)
      = upd (rows Q b h) (rows K b h) (rows V b h) (picked Q K b h t) d :=
  attention_at _ K V (rows Q b h) (rows K b h) (rows V b h) b h t (picked Q K b h t)
    (fun d => chosen_at _ b h t _ ((triples_at _ b h t 0).trans (parts_zero _ b h t)) ((triples_at _ b h t 1).trans (parts_one _ b h t))
      ((triples_at _ b h t 2).trans (parts_two _ b h t _ (picked Q K b h t).isLt (top_word Q K hM b h t))) Q d)
    (fun _ _ => rfl) (fun _ _ => rfl) d

/-- The reference's result at an element. -/
theorem whole_at (b : Fin 2) (h : Fin 12) (l : Fin 2048) (d : Fin 64) :
    whole Q K V (ix4 b h l d) = kout (rows Q b h) (rows K b h) (rows V b h) l d := by
  unfold whole
  by_cases hl : ∃ t : Fin 40, picked Q K b h t = l
  · obtain ⟨t, ht⟩ := hl
    subst ht
    refine (Routing.scatter_set_hit _ _ _ _ _ (upd (rows Q b h) (rows K b h) (rows V b h) (picked Q K b h t) d) (fun k hk => ?_)
      (ix4 b h t d) (lands Q K hM b h t d)).trans (kout_sel _ _ _ (hM b h) t d).symm
    obtain ⟨b', h', t', d', rfl⟩ := split4 k
    rw [lands Q K hM b' h' t' d'] at hk
    obtain ⟨hb, hh, hl, hd⟩ := coords (Option.some.inj hk)
    subst hb hh hd
    rw [update Q K V hM, hl]
  · refine (Routing.scatter_set_miss _ _ _ _ _ (fun k hk => ?_)).trans ((means_at V (rows V b h) b h l d fun _ _ => rfl).trans
      (kout_rest _ _ _ l (fun t ht => hl ⟨t, ht⟩) d).symm)
    obtain ⟨b', h', t', d', rfl⟩ := split4 k
    rw [lands Q K hM b' h' t' d'] at hk
    obtain ⟨hb, hh, hl', hd⟩ := coords (Option.some.inj hk)
    subst hb hh hd
    exact hl ⟨t', hl'⟩

end

end Cert.ReferenceIdeal.Stages

end
-- ==== Proof.Finite.lean ====
module

public import proofs.«01_k».proof.Proof.Gen.Pre_finite_queries_keys
public import proofs.«01_k».proof.Proof.Spec
public import Idealize.ShloMosaic.Lib.Pointwise
public import Idealize.ShloMosaic.Lib.ReduceAll

@[expose] public section

set_option maxRecDepth 16384

noncomputable section

namespace Cert.Pre_finite_queries_keys.Finite

open Cert.Pre_finite_queries_keys Cert.Pre_finite_queries_keys.Gen Idealize.ShloMosaic

instance : Subsingleton S_.Idx := ⟨fun a b => funext fun i => i.elim0⟩

/-- The word of plus infinity. -/
theorem word_top : Ideal.ofBits .f32 0x7F800000#32 = ⊤ := by
  simp [Ideal.ofBits, Ideal.ieee]

/-- A one-bit word that is 1 comes from true. -/
theorem of_bool {b : Bool} (h : BitVec.ofBool b = 1#1) : b = true := by
  cases b
  · exact absurd h (by decide)
  · rfl

/-- Below plus infinity in absolute value is neither infinity. -/
theorem finite_of_lt (x : FVec Ideal S2x2048x12x64 .f32) (i : S2x2048x12x64.Idx)
    (h : cmpf .olt (Host.absf x) (broadcastInDim S2x2048x12x64 ![] Facts.bcast_S_S2x2048x12x64 (constant S_ .f32 0x7F800000#32)) i = 1#1) :
    (x i : EReal) ≠ ⊤ ∧ (x i : EReal) ≠ ⊥ := by
  simp only [pointwise] at h
  have h2 : max (x i : EReal) (-(x i : EReal)) < ⊤ := by
    rw [← word_top]
    exact of_decide_eq_true (of_bool h)
  refine ⟨fun e => ?_, fun e => ?_⟩
  · rw [e, EReal.neg_top] at h2
    exact absurd h2 (by simp)
  · rw [e, EReal.neg_bot] at h2
    exact absurd h2 (by simp)

/-- Where the precondition is all ones every query and key entry is finite. -/
theorem finite_of_pre (Q K V : FVec Ideal S2x2048x12x64 .f32) (A : IVec S1 1) (h : fn (F := Ideal) Q K V A = fun _ => 1#1)
    (i : S2x2048x12x64.Idx) :
    ((Q i : EReal) ≠ ⊤ ∧ (Q i : EReal) ≠ ⊥) ∧ ((K i : EReal) ≠ ⊤ ∧ (K i : EReal) ≠ ⊥) := by
  have h0 := congrFun h (Shape.Idx.first Facts.h_S_)
  unfold fn at h0
  obtain ⟨hq, hk⟩ := IntOp.andi_eq_one.1 h0
  exact ⟨finite_of_lt Q i (Host.reduce_andi_all _ _ _ _ _ hq i), finite_of_lt K i (Host.reduce_andi_all _ _ _ _ _ hk i)⟩

end Cert.Pre_finite_queries_keys.Finite

end
-- ==== Proof.Algebra.lean ====
module

public import proofs.«01_k».proof.Defs
public import proofs.«01_k».proof.Proof.IdealOut
public import proofs.«01_k».proof.Proof.RefValue
public import proofs.«01_k».proof.Proof.Finite

@[expose] public section

set_option maxRecDepth 16384

noncomputable section

namespace Cert.Proof

open Idealize.ShloMosaic Idealize.ShloMosaic.TcCoe Idealize.SL.Sem ProbSparse

/-- The kernel's row of a batch and a head is the reference's. -/
theorem rowOf_eq (A : FVec Ideal Cert.ReferenceIdeal.S2x2048x12x64 .f32) (b : Fin 2) (h : Fin 12) (r : Fin 24) (hr : 12 * b.val + h.val = r.val) :
    Cert.KernelIdeal.Body.rowOf A r = Cert.ReferenceIdeal.Stages.rows A b h := by
  funext l d
  have hb : (⟨r.val / 12, by omega⟩ : Fin 2) = b := Fin.ext (by dsimp only; omega)
  have hh : (⟨r.val % 12, by omega⟩ : Fin 12) = h := Fin.ext (by dsimp only; omega)
  show A (ix4 (⟨r.val / 12, by omega⟩ : Fin 2) l (⟨r.val % 12, by omega⟩ : Fin 12) d) = A (ix4 b l h d)
  rw [hb, hh]

section
variable (m : (ℓ : Loc Cert.KernelIdeal.nD Cert.KernelIdeal.τ Cert.KernelIdeal.sig) → Buf (Elt Ideal) ℓ) (c : Dev Cert.KernelIdeal.nD)

/-- No measure is minus infinity where the queries and keys are finite. -/
theorem measures (hp : Cert.Pre_KernelIdeal_finite_queries_keys m) (b : Fin 2) (h : Fin 12) (l : Fin 2048) :
    meas (Cert.ReferenceIdeal.Stages.rows (m ((c.tc : Thread Cert.KernelIdeal.nD Cert.KernelIdeal.τ).loc Cert.KernelIdeal.main_arg0)) b h)
      (Cert.ReferenceIdeal.Stages.rows (m ((c.tc : Thread Cert.KernelIdeal.nD Cert.KernelIdeal.τ).loc Cert.KernelIdeal.main_arg1)) b h) l ≠ ⊥ :=
  meas_ne_bot _ _ (fun l d => (Cert.Pre_finite_queries_keys.Finite.finite_of_pre _ _ _ _ (hp c) (ix4 b l h d)).1)
    (fun l d => (Cert.Pre_finite_queries_keys.Finite.finite_of_pre _ _ _ _ (hp c) (ix4 b l h d)).2) l

/-- The kernel's result is the reference's, where the queries and keys are finite. -/
theorem results (hp : Cert.Pre_KernelIdeal_finite_queries_keys m) :
    Cert.ReferenceIdeal.Stages.whole (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Body.outV m c := by
  funext i
  have hi : i = ix4 (i 0 : Fin 2) (i 1 : Fin 12) (i 2 : Fin 2048) (i 3 : Fin 64) := by
    funext a
    match a with
    | ⟨0, _⟩ => rfl
    | ⟨1, _⟩ => rfl
    | ⟨2, _⟩ => rfl
    | ⟨3, _⟩ => rfl
  have h0 : (i 0).val < 2 := (i 0).isLt
  have h1 : (i 1).val < 12 := (i 1).isLt
  refine (congrArg _ hi).trans ((Cert.ReferenceIdeal.Stages.whole_at _ _ _ (measures m c hp) (i 0) (i 1) (i 2) (i 3)).trans ?_)
  refine Eq.trans ?_ (Cert.KernelIdeal.Body.outV_eq m c i ⟨12 * (i 0).val + (i 1).val, by omega⟩ (i 2) (i 3) rfl rfl rfl).symm
  show _ = kout (Cert.KernelIdeal.Body.rowOf _ _) (Cert.KernelIdeal.Body.rowOf _ _) (Cert.KernelIdeal.Body.rowOf _ _) (i 2) (i 3)
  rw [rowOf_eq _ (i 0) (i 1) _ rfl, rowOf_eq _ (i 0) (i 1) _ rfl, rowOf_eq _ (i 0) (i 1) _ rfl]

end

/-- The two programs end with equal results. -/
theorem algebraic : Cert.algebraic_KernelIdeal_ReferenceIdeal_pre_finite_queries_keys := by
  intro m g m' g' hp ha
  refine ⟨fun c => Cert.KernelIdeal.Body.outV m c, Cert.KernelIdeal.Body.run_value m g, ?_⟩
  refine (θ_run Cert.ReferenceIdeal.defs _ _).mono (fun r h c => ⟨(h c).1.trans ?_, (h c).2⟩) (Cert.ReferenceIdeal.Value.run (F := Ideal) m' g')
  refine (Cert.ReferenceIdeal.Stages.res_eq m' c).trans ?_
  rw [(ha c).1, (ha c).2.1, (ha c).2.2.1]
  exact results m c hp

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_queries_keys
public import proofs.«01_k».proof.Proof.BitsFrame
public import proofs.«01_k».proof.Proof.IdealFrame
public import proofs.«01_k».proof.Proof.Algebra
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments unchanged and its counters at zero. -/
theorem frame_p : Cert.quiescent_Kernel := fun m g _ => Cert.Kernel.Body.frame m g

/-- So does the kernel read at the extended reals. -/
theorem frame_pi : Cert.quiescent_KernelIdeal := fun m g _ => Cert.KernelIdeal.Body.frame m g

/-- So does the reference, which has no counters. -/
theorem frame_r : Cert.quiescent_ReferenceIdeal := fun m g _ =>
  (θ_run Cert.ReferenceIdeal.defs _ _).mono
    (fun r h => ⟨fun c => (h c).2, Idealize.ShloMosaic.sem_eq_zero_of_no_sems (by decide) r.2⟩) (Cert.ReferenceIdeal.Value.run (F := Ideal) m g)

/-- The certificate: the frames, the idealization and the equality of the results. -/
theorem claim : Cert.Claim := ⟨Cert.Kernel.Gen.facts, Cert.KernelIdeal.Gen.facts, Cert.ReferenceIdeal.Gen.facts, Cert.Pre_finite_queries_keys.Gen.facts,
  frame_p, frame_pi, fun m g _ => frame_pi m g trivial, frame_r, fun m g _ => frame_r m g trivial, trivial, algebraic⟩

end Cert.Proof

end
